-- ==== Defs.lean ====
def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Scores (m : (ℓ : Loc Cert.Scores.nD Cert.Scores.τ Cert.Scores.sig) → Buf (Elt Bits) ℓ) : Prop :=
  True

def Pre_ScoresIdeal (m : (ℓ : Loc Cert.ScoresIdeal.nD Cert.ScoresIdeal.τ Cert.ScoresIdeal.sig) → Buf (Elt Ideal) ℓ) : Prop :=
  True

def Pre_ScoresReferenceIdeal (m : (ℓ : Loc Cert.ScoresReferenceIdeal.nD Cert.ScoresReferenceIdeal.τ Cert.ScoresReferenceIdeal.sig) → Buf (Elt Ideal) ℓ) : Prop :=
  True

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_Scores [hScores : Cert.Scores.Facts] : Prop :=
  ∀ (m : (ℓ : Loc Cert.Scores.nD Cert.Scores.τ Cert.Scores.sig) → Buf (Elt Bits) ℓ) (g : Dev Cert.Scores.nD → PrngReg), Pre_Scores m →
    θ_run (Cert.Scores.defs (F := Bits)) (onTc (τ := Cert.Scores.τ) (Cert.Scores.main (F := Bits))) ⟨m, fun _ => 0, g⟩ (fun r => (∀ c : Dev Cert.Scores.nD,
      r.2.mem ((c.tc : Thread Cert.Scores.nD Cert.Scores.τ).loc Cert.Scores.main_arg0) = m ((c.tc : Thread Cert.Scores.nD Cert.Scores.τ).loc Cert.Scores.main_arg0))
      ∧ r.2.sem = fun _ => 0)

def quiescent_ScoresIdeal [hScoresIdeal : Cert.ScoresIdeal.Facts] : Prop :=
  ∀ (m : (ℓ : Loc Cert.ScoresIdeal.nD Cert.ScoresIdeal.τ Cert.ScoresIdeal.sig) → Buf (Elt Ideal) ℓ) (g : Dev Cert.ScoresIdeal.nD → PrngReg), Pre_ScoresIdeal m →
    θ_run (Cert.ScoresIdeal.defs (F := Ideal)) (onTc (τ := Cert.ScoresIdeal.τ) (Cert.ScoresIdeal.main (F := Ideal))) ⟨m, fun _ => 0, g⟩ (fun r => (∀ c : Dev Cert.ScoresIdeal.nD,
      r.2.mem ((c.tc : Thread Cert.ScoresIdeal.nD Cert.ScoresIdeal.τ).loc Cert.ScoresIdeal.main_arg0) = m ((c.tc : Thread Cert.ScoresIdeal.nD Cert.ScoresIdeal.τ).loc Cert.ScoresIdeal.main_arg0))
      ∧ r.2.sem = fun _ => 0)

def quiescent_ScoresReferenceIdeal [hScoresReferenceIdeal : Cert.ScoresReferenceIdeal.Facts] : Prop :=
  ∀ (m : (ℓ : Loc Cert.ScoresReferenceIdeal.nD Cert.ScoresReferenceIdeal.τ Cert.ScoresReferenceIdeal.sig) → Buf (Elt Ideal) ℓ) (g : Dev Cert.ScoresReferenceIdeal.nD → PrngReg), Pre_ScoresReferenceIdeal m →
    θ_run (Cert.ScoresReferenceIdeal.defs (F := Ideal)) (onTc (τ := Cert.ScoresReferenceIdeal.τ) (Cert.ScoresReferenceIdeal.main (F := Ideal))) ⟨m, fun _ => 0, g⟩ (fun r => (∀ c : Dev Cert.ScoresReferenceIdeal.nD,
      r.2.mem ((c.tc : Thread Cert.ScoresReferenceIdeal.nD Cert.ScoresReferenceIdeal.τ).loc Cert.ScoresReferenceIdeal.main_arg0) = m ((c.tc : Thread Cert.ScoresReferenceIdeal.nD Cert.ScoresReferenceIdeal.τ).loc Cert.ScoresReferenceIdeal.main_arg0))
      ∧ r.2.sem = fun _ => 0)

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v56)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v56) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v183) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def preserves_Scores_ScoresIdeal : Prop :=
  True

def algebraic_ScoresIdeal_ScoresReferenceIdeal [hScoresIdeal : Cert.ScoresIdeal.Facts] [hScoresReferenceIdeal : Cert.ScoresReferenceIdeal.Facts] : Prop :=
  ∀ (m : (ℓ : Loc Cert.ScoresIdeal.nD Cert.ScoresIdeal.τ Cert.ScoresIdeal.sig) → Buf (Elt Ideal) ℓ) (g : Dev Cert.ScoresIdeal.nD → PrngReg)
    (m' : (ℓ : Loc Cert.ScoresReferenceIdeal.nD Cert.ScoresReferenceIdeal.τ Cert.ScoresReferenceIdeal.sig) → Buf (Elt Ideal) ℓ) (g' : Dev Cert.ScoresReferenceIdeal.nD → PrngReg), Pre_ScoresIdeal m →
    (∀ c : Dev Cert.ScoresIdeal.nD,
      m' ((c.tc : Thread Cert.ScoresReferenceIdeal.nD Cert.ScoresReferenceIdeal.τ).loc Cert.ScoresReferenceIdeal.main_arg0) = m ((c.tc : Thread Cert.ScoresIdeal.nD Cert.ScoresIdeal.τ).loc Cert.ScoresIdeal.main_arg0)) →
    ∃ (v0 : (c : Dev Cert.ScoresIdeal.nD) → Buf (Elt Ideal) ((c.tc : Thread Cert.ScoresIdeal.nD Cert.ScoresIdeal.τ).loc Cert.ScoresIdeal.main_v0)),
      θ_run (Cert.ScoresIdeal.defs (F := Ideal)) (onTc (τ := Cert.ScoresIdeal.τ) (Cert.ScoresIdeal.main (F := Ideal))) ⟨m, fun _ => 0, g⟩ (fun r => ∀ c : Dev Cert.ScoresIdeal.nD,
          r.2.mem ((c.tc : Thread Cert.ScoresIdeal.nD Cert.ScoresIdeal.τ).loc Cert.ScoresIdeal.main_v0) = v0 c
          ∧ r.2.mem ((c.tc : Thread Cert.ScoresIdeal.nD Cert.ScoresIdeal.τ).loc Cert.ScoresIdeal.main_arg0) = m ((c.tc : Thread Cert.ScoresIdeal.nD Cert.ScoresIdeal.τ).loc Cert.ScoresIdeal.main_arg0))
      ∧ θ_run (Cert.ScoresReferenceIdeal.defs (F := Ideal)) (onTc (τ := Cert.ScoresReferenceIdeal.τ) (Cert.ScoresReferenceIdeal.main (F := Ideal))) ⟨m', fun _ => 0, g'⟩ (fun r => ∀ c : Dev Cert.ScoresReferenceIdeal.nD,
          r.2.mem ((c.tc : Thread Cert.ScoresReferenceIdeal.nD Cert.ScoresReferenceIdeal.τ).loc Cert.ScoresReferenceIdeal.main_v11) = v0 c
          ∧ r.2.mem ((c.tc : Thread Cert.ScoresReferenceIdeal.nD Cert.ScoresReferenceIdeal.τ).loc Cert.ScoresReferenceIdeal.main_arg0) = m' ((c.tc : Thread Cert.ScoresReferenceIdeal.nD Cert.ScoresReferenceIdeal.τ).loc Cert.ScoresReferenceIdeal.main_arg0))

def Claim : Prop :=
  ∃ (hKernelIdeal : Cert.KernelIdeal.Facts) (hReferenceIdeal : Cert.ReferenceIdeal.Facts) (hScores : Cert.Scores.Facts) (hScoresIdeal : Cert.ScoresIdeal.Facts) (hScoresReferenceIdeal : Cert.ScoresReferenceIdeal.Facts),
    quiescent_KernelIdeal (hKernelIdeal := hKernelIdeal)
    ∧ quiescent_ReferenceIdeal (hReferenceIdeal := hReferenceIdeal)
    ∧ quiescent_Scores (hScores := hScores)
    ∧ quiescent_ScoresIdeal (hScoresIdeal := hScoresIdeal)
    ∧ quiescent_ScoresReferenceIdeal (hScoresReferenceIdeal := hScoresReferenceIdeal)
    ∧ algebraic_KernelIdeal_ReferenceIdeal (hKernelIdeal := hKernelIdeal) (hReferenceIdeal := hReferenceIdeal)
    ∧ preserves_Scores_ScoresIdeal
    ∧ algebraic_ScoresIdeal_ScoresReferenceIdeal (hScoresIdeal := hScoresIdeal) (hScoresReferenceIdeal := hScoresReferenceIdeal)
-- ==== KernelIdeal.lean ====
abbrev S20000x81 : Shape := ⟨2, ![20000, 81]⟩
abbrev S20000x320 : Shape := ⟨2, ![20000, 320]⟩
abbrev S20000x4 : Shape := ⟨2, ![20000, 4]⟩
abbrev S1x256x100x152 : Shape := ⟨4, ![1, 256, 100, 152]⟩
abbrev S1x3x800x1216 : Shape := ⟨4, ![1, 3, 800, 1216]⟩
abbrev S20000x80 : Shape := ⟨2, ![20000, 80]⟩
abbrev S2000x81 : Shape := ⟨2, ![2000, 81]⟩
abbrev S2000x80 : Shape := ⟨2, ![2000, 80]⟩
abbrev S2000 : Shape := ⟨1, ![2000]⟩
abbrev S2000x1 : Shape := ⟨2, ![2000, 1]⟩
abbrev S1600000 : Shape := ⟨1, ![1600000]⟩
abbrev S1000 : Shape := ⟨1, ![1000]⟩
abbrev S_ : Shape := ⟨0, ![]⟩
abbrev S1000x1 : Shape := ⟨2, ![1000, 1]⟩
abbrev S1000x4 : Shape := ⟨2, ![1000, 4]⟩
abbrev S20000x80x4 : Shape := ⟨3, ![20000, 80, 4]⟩
abbrev S1000x2 : Shape := ⟨2, ![1000, 2]⟩
abbrev S1024x4 : Shape := ⟨2, ![1024, 4]⟩
abbrev S1024 : Shape := ⟨1, ![1024]⟩
abbrev S1x1024 : Shape := ⟨2, ![1, 1024]⟩
abbrev S2x1024 : Shape := ⟨2, ![2, 1024]⟩
abbrev S4x1024 : Shape := ⟨2, ![4, 1024]⟩
abbrev S1024x2 : Shape := ⟨2, ![1024, 2]⟩
abbrev S1024x1 : Shape := ⟨2, ![1024, 1]⟩
abbrev S1024x1024 : Shape := ⟨2, ![1024, 1024]⟩
abbrev S1x1x1024 : Shape := ⟨3, ![1, 1, 1024]⟩
abbrev S1 : Shape := ⟨1, ![1]⟩
abbrev S1x1x1 : Shape := ⟨3, ![1, 1, 1]⟩
abbrev S100 : Shape := ⟨1, ![100]⟩
abbrev S100x1 : Shape := ⟨2, ![100, 1]⟩
abbrev S100x4 : Shape := ⟨2, ![100, 4]⟩
abbrev S100x6 : Shape := ⟨2, ![100, 6]⟩

abbrev nBuf : Space → Nat
  | .hbm => 123
  | .vmem => 12
  | .smem => 0
  | _ => 0

abbrev bufTy : (tb : Table) → Fin (tcTables nBuf tb) → BufTy
  | .hbm, ⟨0, _⟩ => ⟨S20000x81, .f32⟩
  | .hbm, ⟨1, _⟩ => ⟨S20000x320, .f32⟩
  | .hbm, ⟨2, _⟩ => ⟨S20000x4, .f32⟩
  | .hbm, ⟨3, _⟩ => ⟨S1x256x100x152, .f32⟩
  | .hbm, ⟨4, _⟩ => ⟨S1x3x800x1216, .f32⟩
  | .hbm, ⟨5, _⟩ => ⟨S20000x80, .f32⟩
  | .hbm, ⟨6, _⟩ => ⟨S1600000, .f32⟩
  | .hbm, ⟨7, _⟩ => ⟨S1000, .f32⟩
  | .hbm, ⟨8, _⟩ => ⟨S1000, .i32⟩
  | .hbm, ⟨9, _⟩ => ⟨S_, .i32⟩
  | .hbm, ⟨10, _⟩ => ⟨S_, .i32⟩
  | .hbm, ⟨11, _⟩ => ⟨S1000, .i32⟩
  | .hbm, ⟨12, _⟩ => ⟨S1000, .i32⟩
  | .hbm, ⟨13, _⟩ => ⟨S1000, .i32⟩
  | .hbm, ⟨14, _⟩ => ⟨S_, .i32⟩
  | .hbm, ⟨15, _⟩ => ⟨S1000, .i32⟩
  | .hbm, ⟨16, _⟩ => ⟨S1000, .i1⟩
  | .hbm, ⟨17, _⟩ => ⟨S1000, .i32⟩
  | .hbm, ⟨18, _⟩ => ⟨S1000, .i32⟩
  | .hbm, ⟨19, _⟩ => ⟨S_, .i32⟩
  | .hbm, ⟨20, _⟩ => ⟨S1000, .i32⟩
  | .hbm, ⟨21, _⟩ => ⟨S1000, .i1⟩
  | .hbm, ⟨22, _⟩ => ⟨S1000, .i1⟩
  | .hbm, ⟨23, _⟩ => ⟨S_, .i32⟩
  | .hbm, ⟨24, _⟩ => ⟨S1000, .i32⟩
  | .hbm, ⟨25, _⟩ => ⟨S1000, .i32⟩
  | .hbm, ⟨26, _⟩ => ⟨S1000, .i32⟩
  | .hbm, ⟨27, _⟩ => ⟨S_, .i32⟩
  | .hbm, ⟨28, _⟩ => ⟨S_, .i32⟩
  | .hbm, ⟨29, _⟩ => ⟨S_, .i32⟩
  | .hbm, ⟨30, _⟩ => ⟨S_, .i1⟩
  | .hbm, ⟨31, _⟩ => ⟨S_, .i32⟩
  | .hbm, ⟨32, _⟩ => ⟨S_, .i32⟩
  | .hbm, ⟨33, _⟩ => ⟨S1000, .i32⟩
  | .hbm, ⟨34, _⟩ => ⟨S1000, .i32⟩
  | .hbm, ⟨35, _⟩ => ⟨S_, .i32⟩
  | .hbm, ⟨36, _⟩ => ⟨S1000, .i32⟩
  | .hbm, ⟨37, _⟩ => ⟨S1000, .i1⟩
  | .hbm, ⟨38, _⟩ => ⟨S_, .i32⟩
  | .hbm, ⟨39, _⟩ => ⟨S1000, .i32⟩
  | .hbm, ⟨40, _⟩ => ⟨S1000, .i1⟩
  | .hbm, ⟨41, _⟩ => ⟨S_, .i32⟩
  | .hbm, ⟨42, _⟩ => ⟨S_, .i1⟩
  | .hbm, ⟨43, _⟩ => ⟨S1000, .i1⟩
  | .hbm, ⟨44, _⟩ => ⟨S1000, .i1⟩
  | .hbm, ⟨45, _⟩ => ⟨S1000, .i1⟩
  | .hbm, ⟨46, _⟩ => ⟨S1000, .i32⟩
  | .hbm, ⟨47, _⟩ => ⟨S1000, .i32⟩
  | .hbm, ⟨48, _⟩ => ⟨S1000, .i32⟩
  | .hbm, ⟨49, _⟩ => ⟨S_, .i32⟩
  | .hbm, ⟨50, _⟩ => ⟨S1000, .i32⟩
  | .hbm, ⟨51, _⟩ => ⟨S1000, .i1⟩
  | .hbm, ⟨52, _⟩ => ⟨S_, .i32⟩
  | .hbm, ⟨53, _⟩ => ⟨S1000, .i32⟩
  | .hbm, ⟨54, _⟩ => ⟨S1000, .i32⟩
  | .hbm, ⟨55, _⟩ => ⟨S1000, .i32⟩
  | .hbm, ⟨56, _⟩ => ⟨S1000x1, .i32⟩
  | .hbm, ⟨57, _⟩ => ⟨S1000x4, .f32⟩
  | .hbm, ⟨58, _⟩ => ⟨S20000x80x4, .f32⟩
  | .hbm, ⟨59, _⟩ => ⟨S_, .i32⟩
  | .hbm, ⟨60, _⟩ => ⟨S1000, .i32⟩
  | .hbm, ⟨61, _⟩ => ⟨S1000, .i1⟩
  | .hbm, ⟨62, _⟩ => ⟨S_, .i32⟩
  | .hbm, ⟨63, _⟩ => ⟨S1000, .i32⟩
  | .hbm, ⟨64, _⟩ => ⟨S1000, .i32⟩
  | .hbm, ⟨65, _⟩ => ⟨S1000, .i32⟩
  | .hbm, ⟨66, _⟩ => ⟨S_, .i32⟩
  | .hbm, ⟨67, _⟩ => ⟨S1000, .i32⟩
  | .hbm, ⟨68, _⟩ => ⟨S1000, .i1⟩
  | .hbm, ⟨69, _⟩ => ⟨S_, .i32⟩
  | .hbm, ⟨70, _⟩ => ⟨S1000, .i32⟩
  | .hbm, ⟨71, _⟩ => ⟨S1000, .i32⟩
  | .hbm, ⟨72, _⟩ => ⟨S1000, .i32⟩
  | .hbm, ⟨73, _⟩ => ⟨S1000x1, .i32⟩
  | .hbm, ⟨74, _⟩ => ⟨S1000x1, .i32⟩
  | .hbm, ⟨75, _⟩ => ⟨S1000x2, .i32⟩
  | .hbm, ⟨76, _⟩ => ⟨S1000x4, .f32⟩
  | .hbm, ⟨77, _⟩ => ⟨S1000, .f32⟩
  | .hbm, ⟨78, _⟩ => ⟨S_, .i32⟩
  | .hbm, ⟨79, _⟩ => ⟨S_, .f32⟩
  | .hbm, ⟨80, _⟩ => ⟨S1024x4, .f32⟩
  | .hbm, ⟨81, _⟩ => ⟨S_, .i32⟩
  | .hbm, ⟨82, _⟩ => ⟨S_, .f32⟩
  | .hbm, ⟨83, _⟩ => ⟨S1024x4, .f32⟩
  | .hbm, ⟨84, _⟩ => ⟨S_, .f32⟩
  | .hbm, ⟨85, _⟩ => ⟨S_, .f32⟩
  | .hbm, ⟨86, _⟩ => ⟨S1024, .f32⟩
  | .hbm, ⟨87, _⟩ => ⟨S_, .i32⟩
  | .hbm, ⟨88, _⟩ => ⟨S_, .f32⟩
  | .hbm, ⟨89, _⟩ => ⟨S1024, .f32⟩
  | .hbm, ⟨90, _⟩ => ⟨S1x1024, .f32⟩
  | .hbm, ⟨91, _⟩ => ⟨S1x1024, .f32⟩
  | .hbm, ⟨92, _⟩ => ⟨S2x1024, .f32⟩
  | .hbm, ⟨93, _⟩ => ⟨S4x1024, .f32⟩
  | .hbm, ⟨94, _⟩ => ⟨S4x1024, .f32⟩
  | .hbm, ⟨95, _⟩ => ⟨S1024x2, .f32⟩
  | .hbm, ⟨96, _⟩ => ⟨S1x1024, .f32⟩
  | .hbm, ⟨97, _⟩ => ⟨S4x1024, .f32⟩
  | .hbm, ⟨98, _⟩ => ⟨S1024, .f32⟩
  | .hbm, ⟨99, _⟩ => ⟨S100, .f32⟩
  | .hbm, ⟨100, _⟩ => ⟨S100, .i32⟩
  | .hbm, ⟨101, _⟩ => ⟨S1024x4, .f32⟩
  | .hbm, ⟨102, _⟩ => ⟨S_, .i32⟩
  | .hbm, ⟨103, _⟩ => ⟨S100, .i32⟩
  | .hbm, ⟨104, _⟩ => ⟨S100, .i1⟩
  | .hbm, ⟨105, _⟩ => ⟨S_, .i32⟩
  | .hbm, ⟨106, _⟩ => ⟨S100, .i32⟩
  | .hbm, ⟨107, _⟩ => ⟨S100, .i32⟩
  | .hbm, ⟨108, _⟩ => ⟨S100, .i32⟩
  | .hbm, ⟨109, _⟩ => ⟨S100x1, .i32⟩
  | .hbm, ⟨110, _⟩ => ⟨S100x4, .f32⟩
  | .hbm, ⟨111, _⟩ => ⟨S_, .i32⟩
  | .hbm, ⟨112, _⟩ => ⟨S100, .i32⟩
  | .hbm, ⟨113, _⟩ => ⟨S100, .i1⟩
  | .hbm, ⟨114, _⟩ => ⟨S_, .i32⟩
  | .hbm, ⟨115, _⟩ => ⟨S100, .i32⟩
  | .hbm, ⟨116, _⟩ => ⟨S100, .i32⟩
  | .hbm, ⟨117, _⟩ => ⟨S100, .i32⟩
  | .hbm, ⟨118, _⟩ => ⟨S100x1, .i32⟩
  | .hbm, ⟨119, _⟩ => ⟨S100, .f32⟩
  | .hbm, ⟨120, _⟩ => ⟨S100x1, .f32⟩
  | .hbm, ⟨121, _⟩ => ⟨S100x1, .f32⟩
  | .hbm, ⟨122, _⟩ => ⟨S100x6, .f32⟩
  | .local _ .vmem, ⟨0, _⟩ => ⟨S2000x81, .f32⟩
  | .local _ .vmem, ⟨1, _⟩ => ⟨S2000x81, .f32⟩
  | .local _ .vmem, ⟨2, _⟩ => ⟨S2000x80, .f32⟩
  | .local _ .vmem, ⟨3, _⟩ => ⟨S2000x80, .f32⟩
  | .local _ .vmem, ⟨4, _⟩ => ⟨S4x1024, .f32⟩
  | .local _ .vmem, ⟨5, _⟩ => ⟨S1024x4, .f32⟩
  | .local _ .vmem, ⟨6, _⟩ => ⟨S4x1024, .f32⟩
  | .local _ .vmem, ⟨7, _⟩ => ⟨S1024x4, .f32⟩
  | .local _ .vmem, ⟨8, _⟩ => ⟨S2x1024, .f32⟩
  | .local _ .vmem, ⟨9, _⟩ => ⟨S1024x2, .f32⟩
  | .local _ .vmem, ⟨10, _⟩ => ⟨S1x1024, .f32⟩
  | .local _ .vmem, ⟨11, _⟩ => ⟨S4x1024, .f32⟩
  | _, _ => ⟨S20000x81, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_values : Ref sig .tc := ⟨.hbm, 7, rfl⟩
abbrev main_indices : Ref sig .tc := ⟨.hbm, 8, rfl⟩
abbrev main_c : Ref sig .tc := ⟨.hbm, 9, rfl⟩
abbrev main_call0_v0 : Ref sig .tc := ⟨.hbm, 10, rfl⟩
abbrev main_call0_v1 : Ref sig .tc := ⟨.hbm, 11, rfl⟩
abbrev main_call0_v2 : Ref sig .tc := ⟨.hbm, 12, rfl⟩
abbrev main_call0_v3 : Ref sig .tc := ⟨.hbm, 13, rfl⟩
abbrev main_call0_v4 : Ref sig .tc := ⟨.hbm, 14, rfl⟩
abbrev main_call0_v5 : Ref sig .tc := ⟨.hbm, 15, rfl⟩
abbrev main_call0_v6 : Ref sig .tc := ⟨.hbm, 16, rfl⟩
abbrev main_call0_v7 : Ref sig .tc := ⟨.hbm, 17, rfl⟩
abbrev main_call0_v8 : Ref sig .tc := ⟨.hbm, 18, rfl⟩
abbrev main_call0_c : Ref sig .tc := ⟨.hbm, 19, rfl⟩
abbrev main_call0_v9 : Ref sig .tc := ⟨.hbm, 20, rfl⟩
abbrev main_call0_v10 : Ref sig .tc := ⟨.hbm, 21, rfl⟩
abbrev main_call0_v11 : Ref sig .tc := ⟨.hbm, 22, rfl⟩
abbrev main_call0_c_0 : Ref sig .tc := ⟨.hbm, 23, rfl⟩
abbrev main_call0_v12 : Ref sig .tc := ⟨.hbm, 24, rfl⟩
abbrev main_call0_v13 : Ref sig .tc := ⟨.hbm, 25, rfl⟩
abbrev main_v2 : Ref sig .tc := ⟨.hbm, 26, rfl⟩
abbrev main_c_0 : Ref sig .tc := ⟨.hbm, 27, rfl⟩
abbrev main_call1_v0 : Ref sig .tc := ⟨.hbm, 28, rfl⟩
abbrev main_call1_c : Ref sig .tc := ⟨.hbm, 29, rfl⟩
abbrev main_call1_v1 : Ref sig .tc := ⟨.hbm, 30, rfl⟩
abbrev main_call1_c_0 : Ref sig .tc := ⟨.hbm, 31, rfl⟩
abbrev main_call1_v2 : Ref sig .tc := ⟨.hbm, 32, rfl⟩
abbrev main_call1_v3 : Ref sig .tc := ⟨.hbm, 33, rfl⟩
abbrev main_call1_v4 : Ref sig .tc := ⟨.hbm, 34, rfl⟩
abbrev main_call1_c_1 : Ref sig .tc := ⟨.hbm, 35, rfl⟩
abbrev main_call1_v5 : Ref sig .tc := ⟨.hbm, 36, rfl⟩
abbrev main_call1_v6 : Ref sig .tc := ⟨.hbm, 37, rfl⟩
abbrev main_call1_c_2 : Ref sig .tc := ⟨.hbm, 38, rfl⟩
abbrev main_call1_v7 : Ref sig .tc := ⟨.hbm, 39, rfl⟩
abbrev main_call1_v8 : Ref sig .tc := ⟨.hbm, 40, rfl⟩
abbrev main_call1_c_3 : Ref sig .tc := ⟨.hbm, 41, rfl⟩
abbrev main_call1_v9 : Ref sig .tc := ⟨.hbm, 42, rfl⟩
abbrev main_call1_v10 : Ref sig .tc := ⟨.hbm, 43, rfl⟩
abbrev main_call1_v11 : Ref sig .tc := ⟨.hbm, 44, rfl⟩
abbrev main_call1_v12 : Ref sig .tc := ⟨.hbm, 45, rfl⟩
abbrev main_call1_v13 : Ref sig .tc := ⟨.hbm, 46, rfl⟩
abbrev main_call1_v14 : Ref sig .tc := ⟨.hbm, 47, rfl⟩
abbrev main_v3 : Ref sig .tc := ⟨.hbm, 48, rfl⟩
abbrev main_c_1 : Ref sig .tc := ⟨.hbm, 49, rfl⟩
abbrev main_v4 : Ref sig .tc := ⟨.hbm, 50, rfl⟩
abbrev main_v5 : Ref sig .tc := ⟨.hbm, 51, rfl⟩
abbrev main_c_2 : Ref sig .tc := ⟨.hbm, 52, rfl⟩
abbrev main_v6 : Ref sig .tc := ⟨.hbm, 53, rfl⟩
abbrev main_v7 : Ref sig .tc := ⟨.hbm, 54, rfl⟩
abbrev main_v8 : Ref sig .tc := ⟨.hbm, 55, rfl⟩
abbrev main_v9 : Ref sig .tc := ⟨.hbm, 56, rfl⟩
abbrev main_v10 : Ref sig .tc := ⟨.hbm, 57, rfl⟩
abbrev main_v11 : Ref sig .tc := ⟨.hbm, 58, rfl⟩
abbrev main_c_3 : Ref sig .tc := ⟨.hbm, 59, rfl⟩
abbrev main_v12 : Ref sig .tc := ⟨.hbm, 60, rfl⟩
abbrev main_v13 : Ref sig .tc := ⟨.hbm, 61, rfl⟩
abbrev main_c_4 : Ref sig .tc := ⟨.hbm, 62, rfl⟩
abbrev main_v14 : Ref sig .tc := ⟨.hbm, 63, rfl⟩
abbrev main_v15 : Ref sig .tc := ⟨.hbm, 64, rfl⟩
abbrev main_v16 : Ref sig .tc := ⟨.hbm, 65, rfl⟩
abbrev main_c_5 : Ref sig .tc := ⟨.hbm, 66, rfl⟩
abbrev main_v17 : Ref sig .tc := ⟨.hbm, 67, rfl⟩
abbrev main_v18 : Ref sig .tc := ⟨.hbm, 68, rfl⟩
abbrev main_c_6 : Ref sig .tc := ⟨.hbm, 69, rfl⟩
abbrev main_v19 : Ref sig .tc := ⟨.hbm, 70, rfl⟩
abbrev main_v20 : Ref sig .tc := ⟨.hbm, 71, rfl⟩
abbrev main_v21 : Ref sig .tc := ⟨.hbm, 72, rfl⟩
abbrev main_v22 : Ref sig .tc := ⟨.hbm, 73, rfl⟩
abbrev main_v23 : Ref sig .tc := ⟨.hbm, 74, rfl⟩
abbrev main_v24 : Ref sig .tc := ⟨.hbm, 75, rfl⟩
abbrev main_v25 : Ref sig .tc := ⟨.hbm, 76, rfl⟩
abbrev main_v26 : Ref sig .tc := ⟨.hbm, 77, rfl⟩
abbrev main_c_7 : Ref sig .tc := ⟨.hbm, 78, rfl⟩
abbrev main_call2_v0 : Ref sig .tc := ⟨.hbm, 79, rfl⟩
abbrev main_v27 : Ref sig .tc := ⟨.hbm, 80, rfl⟩
abbrev main_c_8 : Ref sig .tc := ⟨.hbm, 81, rfl⟩
abbrev main_call3_v0 : Ref sig .tc := ⟨.hbm, 82, rfl⟩
abbrev main_v28 : Ref sig .tc := ⟨.hbm, 83, rfl⟩
abbrev main_cst : Ref sig .tc := ⟨.hbm, 84, rfl⟩
abbrev main_call4_v0 : Ref sig .tc := ⟨.hbm, 85, rfl⟩
abbrev main_v29 : Ref sig .tc := ⟨.hbm, 86, rfl⟩
abbrev main_c_9 : Ref sig .tc := ⟨.hbm, 87, rfl⟩
abbrev main_call5_v0 : Ref sig .tc := ⟨.hbm, 88, rfl⟩
abbrev main_v30 : Ref sig .tc := ⟨.hbm, 89, rfl⟩
abbrev main_v31 : Ref sig .tc := ⟨.hbm, 90, rfl⟩
abbrev main_v32 : Ref sig .tc := ⟨.hbm, 91, rfl⟩
abbrev main_v33 : Ref sig .tc := ⟨.hbm, 92, rfl⟩
abbrev main_v34 : Ref sig .tc := ⟨.hbm, 93, rfl⟩
abbrev main_v35 : Ref sig .tc := ⟨.hbm, 94, rfl⟩
abbrev main_v36 : Ref sig .tc := ⟨.hbm, 95, rfl⟩
abbrev main_v37_0 : Ref sig .tc := ⟨.hbm, 96, rfl⟩
abbrev main_v37_1 : Ref sig .tc := ⟨.hbm, 97, rfl⟩
abbrev main_v38 : Ref sig .tc := ⟨.hbm, 98, rfl⟩
abbrev main_values_10 : Ref sig .tc := ⟨.hbm, 99, rfl⟩
abbrev main_indices_11 : Ref sig .tc := ⟨.hbm, 100, rfl⟩
abbrev main_v39 : Ref sig .tc := ⟨.hbm, 101, rfl⟩
abbrev main_c_12 : Ref sig .tc := ⟨.hbm, 102, rfl⟩
abbrev main_v40 : Ref sig .tc := ⟨.hbm, 103, rfl⟩
abbrev main_v41 : Ref sig .tc := ⟨.hbm, 104, rfl⟩
abbrev main_c_13 : Ref sig .tc := ⟨.hbm, 105, rfl⟩
abbrev main_v42 : Ref sig .tc := ⟨.hbm, 106, rfl⟩
abbrev main_v43 : Ref sig .tc := ⟨.hbm, 107, rfl⟩
abbrev main_v44 : Ref sig .tc := ⟨.hbm, 108, rfl⟩
abbrev main_v45 : Ref sig .tc := ⟨.hbm, 109, rfl⟩
abbrev main_v46 : Ref sig .tc := ⟨.hbm, 110, rfl⟩
abbrev main_c_14 : Ref sig .tc := ⟨.hbm, 111, rfl⟩
abbrev main_v47 : Ref sig .tc := ⟨.hbm, 112, rfl⟩
abbrev main_v48 : Ref sig .tc := ⟨.hbm, 113, rfl⟩
abbrev main_c_15 : Ref sig .tc := ⟨.hbm, 114, rfl⟩
abbrev main_v49 : Ref sig .tc := ⟨.hbm, 115, rfl⟩
abbrev main_v50 : Ref sig .tc := ⟨.hbm, 116, rfl⟩
abbrev main_v51 : Ref sig .tc := ⟨.hbm, 117, rfl⟩
abbrev main_v52 : Ref sig .tc := ⟨.hbm, 118, rfl⟩
abbrev main_v53 : Ref sig .tc := ⟨.hbm, 119, rfl⟩
abbrev main_v54 : Ref sig .tc := ⟨.hbm, 120, rfl⟩
abbrev main_v55 : Ref sig .tc := ⟨.hbm, 121, rfl⟩
abbrev main_v56 : Ref sig .tc := ⟨.hbm, 122, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc1_stg0_0 : Ref sig .tc := ⟨.vmem, 4, rfl⟩
abbrev cc1_stg1_0 : Ref sig .tc := ⟨.vmem, 5, rfl⟩
abbrev cc1_stg2_0 : Ref sig .tc := ⟨.vmem, 6, rfl⟩
abbrev cc1_stg3_0 : Ref sig .tc := ⟨.vmem, 7, rfl⟩
abbrev cc1_stg4_0 : Ref sig .tc := ⟨.vmem, 8, rfl⟩
abbrev cc1_stg5_0 : Ref sig .tc := ⟨.vmem, 9, rfl⟩
abbrev cc1_stg6_0 : Ref sig .tc := ⟨.vmem, 10, rfl⟩
abbrev cc1_stg7_0 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc1_sem0_0 : DmaSem sig := 4
abbrev cc1_sem1_0 : DmaSem sig := 5
abbrev cc1_sem2_0 : DmaSem sig := 6
abbrev cc1_sem3_0 : DmaSem sig := 7
abbrev cc1_sem4_0 : DmaSem sig := 8
abbrev cc1_sem5_0 : DmaSem sig := 9
abbrev cc1_sem6_0 : DmaSem sig := 10
abbrev cc1_sem7_0 : DmaSem sig := 11

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x81 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2000x80 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev grid1 : Pipeline.Grid := .none

abbrev stage1_0 : Fin 1 → Memref sig .tc .vmem S4x1024 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))

abbrev stage1_1 : Fin 1 → Memref sig .tc .vmem S1024x4 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))

abbrev stage1_2 : Fin 1 → Memref sig .tc .vmem S4x1024 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))

abbrev stage1_3 : Fin 1 → Memref sig .tc .vmem S1024x4 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))

abbrev stage1_4 : Fin 1 → Memref sig .tc .vmem S2x1024 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))

abbrev stage1_5 : Fin 1 → Memref sig .tc .vmem S1024x2 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))

abbrev stage1_6 : Fin 1 → Memref sig .tc .vmem S1x1024 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))

abbrev stage1_7 : Fin 1 → Memref sig .tc .vmem S4x1024 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
-- ==== ReferenceIdeal.lean ====
abbrev S20000x81 : Shape := ⟨2, ![20000, 81]⟩
abbrev S20000x320 : Shape := ⟨2, ![20000, 320]⟩
abbrev S20000x4 : Shape := ⟨2, ![20000, 4]⟩
abbrev S1x256x100x152 : Shape := ⟨4, ![1, 256, 100, 152]⟩
abbrev S1x3x800x1216 : Shape := ⟨4, ![1, 3, 800, 1216]⟩
abbrev S_ : Shape := ⟨0, ![]⟩
abbrev S20000 : Shape := ⟨1, ![20000]⟩
abbrev S20000x1 : Shape := ⟨2, ![20000, 1]⟩
abbrev S20000x80 : Shape := ⟨2, ![20000, 80]⟩
abbrev S20000x80x4 : Shape := ⟨3, ![20000, 80, 4]⟩
abbrev S20000x80x1 : Shape := ⟨3, ![20000, 80, 1]⟩
abbrev S1600000 : Shape := ⟨1, ![1600000]⟩
abbrev S1000 : Shape := ⟨1, ![1000]⟩
abbrev S1000x1 : Shape := ⟨2, ![1000, 1]⟩
abbrev S1000x2 : Shape := ⟨2, ![1000, 2]⟩
abbrev S1000x4 : Shape := ⟨2, ![1000, 4]⟩
abbrev S1000x1x2 : Shape := ⟨3, ![1000, 1, 2]⟩
abbrev S1x1000x2 : Shape := ⟨3, ![1, 1000, 2]⟩
abbrev S1000x1000x2 : Shape := ⟨3, ![1000, 1000, 2]⟩
abbrev S1000x1000x1 : Shape := ⟨3, ![1000, 1000, 1]⟩
abbrev S1000x1000 : Shape := ⟨2, ![1000, 1000]⟩
abbrev S1x1000 : Shape := ⟨2, ![1, 1000]⟩
abbrev S1 : Shape := ⟨1, ![1]⟩
abbrev S100 : Shape := ⟨1, ![100]⟩
abbrev S100x1 : Shape := ⟨2, ![100, 1]⟩
abbrev S100x4 : Shape := ⟨2, ![100, 4]⟩
abbrev S100x6 : Shape := ⟨2, ![100, 6]⟩

abbrev nBuf : Space → Nat
  | .hbm => 342
  | .vmem => 0
  | .smem => 0
  | _ => 0

abbrev hbmTy0_0 (i : Nat) : BufTy := match i % 128 with
  | 0 => ⟨S20000x81, .f32⟩
  | 1 => ⟨S20000x320, .f32⟩
  | 2 => ⟨S20000x4, .f32⟩
  | 3 => ⟨S1x256x100x152, .f32⟩
  | 4 => ⟨S1x3x800x1216, .f32⟩
  | 5 => ⟨S_, .f32⟩
  | 6 => ⟨S20000, .f32⟩
  | 7 => ⟨S_, .f32⟩
  | 8 => ⟨S20000, .f32⟩
  | 9 => ⟨S20000, .f32⟩
  | 10 => ⟨S20000x1, .f32⟩
  | 11 => ⟨S20000x81, .f32⟩
  | 12 => ⟨S20000x81, .f32⟩
  | 13 => ⟨S20000x81, .f32⟩
  | 14 => ⟨S_, .f32⟩
  | 15 => ⟨S20000, .f32⟩
  | 16 => ⟨S20000x1, .f32⟩
  | 17 => ⟨S20000x81, .f32⟩
  | 18 => ⟨S20000x81, .f32⟩
  | 19 => ⟨S20000x80, .f32⟩
  | 20 => ⟨S20000x80x4, .f32⟩
  | 21 => ⟨S20000x1, .f32⟩
  | 22 => ⟨S20000, .f32⟩
  | 23 => ⟨S20000x1, .f32⟩
  | 24 => ⟨S20000, .f32⟩
  | 25 => ⟨S20000, .f32⟩
  | 26 => ⟨S20000x1, .f32⟩
  | 27 => ⟨S20000, .f32⟩
  | 28 => ⟨S20000x1, .f32⟩
  | 29 => ⟨S20000, .f32⟩
  | 30 => ⟨S20000, .f32⟩
  | 31 => ⟨S20000x1, .f32⟩
  | 32 => ⟨S20000, .f32⟩
  | 33 => ⟨S_, .f32⟩
  | 34 => ⟨S20000, .f32⟩
  | 35 => ⟨S20000, .f32⟩
  | 36 => ⟨S20000, .f32⟩
  | 37 => ⟨S20000x1, .f32⟩
  | 38 => ⟨S20000, .f32⟩
  | 39 => ⟨S_, .f32⟩
  | 40 => ⟨S20000, .f32⟩
  | 41 => ⟨S20000, .f32⟩
  | 42 => ⟨S20000, .f32⟩
  | 43 => ⟨S20000x80x1, .f32⟩
  | 44 => ⟨S20000x80, .f32⟩
  | 45 => ⟨S_, .f32⟩
  | 46 => ⟨S20000x80, .f32⟩
  | 47 => ⟨S20000x80, .f32⟩
  | 48 => ⟨S20000x80x1, .f32⟩
  | 49 => ⟨S20000x80, .f32⟩
  | 50 => ⟨S_, .f32⟩
  | 51 => ⟨S20000x80, .f32⟩
  | 52 => ⟨S20000x80, .f32⟩
  | 53 => ⟨S20000x80x1, .f32⟩
  | 54 => ⟨S20000x80, .f32⟩
  | 55 => ⟨S_, .f32⟩
  | 56 => ⟨S20000x80, .f32⟩
  | 57 => ⟨S20000x80, .f32⟩
  | 58 => ⟨S_, .f32⟩
  | 59 => ⟨S20000x80, .f32⟩
  | 60 => ⟨S20000x80, .f32⟩
  | 61 => ⟨S20000x80x1, .f32⟩
  | 62 => ⟨S20000x80, .f32⟩
  | 63 => ⟨S_, .f32⟩
  | 64 => ⟨S20000x80, .f32⟩
  | 65 => ⟨S20000x80, .f32⟩
  | 66 => ⟨S_, .f32⟩
  | 67 => ⟨S20000x80, .f32⟩
  | 68 => ⟨S20000x80, .f32⟩
  | 69 => ⟨S20000x1, .f32⟩
  | 70 => ⟨S20000x80, .f32⟩
  | 71 => ⟨S20000x80, .f32⟩
  | 72 => ⟨S20000x1, .f32⟩
  | 73 => ⟨S20000x80, .f32⟩
  | 74 => ⟨S20000x80, .f32⟩
  | 75 => ⟨S20000x1, .f32⟩
  | 76 => ⟨S20000x80, .f32⟩
  | 77 => ⟨S20000x80, .f32⟩
  | 78 => ⟨S20000x1, .f32⟩
  | 79 => ⟨S20000x80, .f32⟩
  | 80 => ⟨S20000x80, .f32⟩
  | 81 => ⟨S20000x80, .f32⟩
  | 82 => ⟨S20000x1, .f32⟩
  | 83 => ⟨S20000x80, .f32⟩
  | 84 => ⟨S20000x80, .f32⟩
  | 85 => ⟨S20000x80, .f32⟩
  | 86 => ⟨S20000x1, .f32⟩
  | 87 => ⟨S20000x80, .f32⟩
  | 88 => ⟨S20000x80, .f32⟩
  | 89 => ⟨S_, .f32⟩
  | 90 => ⟨S20000x80, .f32⟩
  | 91 => ⟨S20000x80, .f32⟩
  | 92 => ⟨S20000x80, .f32⟩
  | 93 => ⟨S_, .f32⟩
  | 94 => ⟨S_, .i32⟩
  | 95 => ⟨S_, .f32⟩
  | 96 => ⟨S20000x80, .f32⟩
  | 97 => ⟨S20000x80, .f32⟩
  | 98 => ⟨S_, .f32⟩
  | 99 => ⟨S20000x80, .f32⟩
  | 100 => ⟨S20000x80, .f32⟩
  | 101 => ⟨S_, .f32⟩
  | 102 => ⟨S20000x80, .f32⟩
  | 103 => ⟨S20000x80, .f32⟩
  | 104 => ⟨S20000x80, .f32⟩
  | 105 => ⟨S_, .f32⟩
  | 106 => ⟨S_, .i32⟩
  | 107 => ⟨S_, .f32⟩
  | 108 => ⟨S20000x80, .f32⟩
  | 109 => ⟨S20000x80, .f32⟩
  | 110 => ⟨S_, .f32⟩
  | 111 => ⟨S20000x80, .f32⟩
  | 112 => ⟨S20000x80, .f32⟩
  | 113 => ⟨S_, .f32⟩
  | 114 => ⟨S20000x80, .f32⟩
  | 115 => ⟨S20000x80, .f32⟩
  | 116 => ⟨S20000x80, .f32⟩
  | 117 => ⟨S_, .f32⟩
  | 118 => ⟨S_, .i32⟩
  | 119 => ⟨S_, .f32⟩
  | 120 => ⟨S20000x80, .f32⟩
  | 121 => ⟨S20000x80, .f32⟩
  | 122 => ⟨S_, .f32⟩
  | 123 => ⟨S20000x80, .f32⟩
  | 124 => ⟨S20000x80, .f32⟩
  | 125 => ⟨S_, .f32⟩
  | 126 => ⟨S20000x80, .f32⟩
  | 127 => ⟨S20000x80, .f32⟩
  | _ => ⟨S20000x81, .f32⟩

abbrev hbmTy0_1 (i : Nat) : BufTy := match i % 128 with
  | 0 => ⟨S20000x80, .f32⟩
  | 1 => ⟨S_, .f32⟩
  | 2 => ⟨S_, .i32⟩
  | 3 => ⟨S_, .f32⟩
  | 4 => ⟨S20000x80, .f32⟩
  | 5 => ⟨S20000x80, .f32⟩
  | 6 => ⟨S_, .f32⟩
  | 7 => ⟨S20000x80, .f32⟩
  | 8 => ⟨S20000x80, .f32⟩
  | 9 => ⟨S20000x80x1, .f32⟩
  | 10 => ⟨S20000x80x1, .f32⟩
  | 11 => ⟨S20000x80x1, .f32⟩
  | 12 => ⟨S20000x80x1, .f32⟩
  | 13 => ⟨S20000x80x4, .f32⟩
  | 14 => ⟨S1600000, .f32⟩
  | 15 => ⟨S1000, .f32⟩
  | 16 => ⟨S1000, .i32⟩
  | 17 => ⟨S_, .f32⟩
  | 18 => ⟨S1000, .f32⟩
  | 19 => ⟨S1000, .i1⟩
  | 20 => ⟨S_, .f32⟩
  | 21 => ⟨S_, .f32⟩
  | 22 => ⟨S1000, .f32⟩
  | 23 => ⟨S1000, .f32⟩
  | 24 => ⟨S_, .i32⟩
  | 25 => ⟨S_, .i32⟩
  | 26 => ⟨S1000, .i32⟩
  | 27 => ⟨S1000, .i32⟩
  | 28 => ⟨S1000, .i32⟩
  | 29 => ⟨S_, .i32⟩
  | 30 => ⟨S1000, .i32⟩
  | 31 => ⟨S1000, .i1⟩
  | 32 => ⟨S1000, .i32⟩
  | 33 => ⟨S1000, .i32⟩
  | 34 => ⟨S_, .i32⟩
  | 35 => ⟨S1000, .i32⟩
  | 36 => ⟨S1000, .i1⟩
  | 37 => ⟨S1000, .i1⟩
  | 38 => ⟨S_, .i32⟩
  | 39 => ⟨S1000, .i32⟩
  | 40 => ⟨S1000, .i32⟩
  | 41 => ⟨S1000, .i32⟩
  | 42 => ⟨S_, .i32⟩
  | 43 => ⟨S_, .i32⟩
  | 44 => ⟨S_, .i32⟩
  | 45 => ⟨S_, .i1⟩
  | 46 => ⟨S_, .i32⟩
  | 47 => ⟨S_, .i32⟩
  | 48 => ⟨S1000, .i32⟩
  | 49 => ⟨S1000, .i32⟩
  | 50 => ⟨S_, .i32⟩
  | 51 => ⟨S1000, .i32⟩
  | 52 => ⟨S1000, .i1⟩
  | 53 => ⟨S_, .i32⟩
  | 54 => ⟨S1000, .i32⟩
  | 55 => ⟨S1000, .i1⟩
  | 56 => ⟨S_, .i32⟩
  | 57 => ⟨S_, .i1⟩
  | 58 => ⟨S1000, .i1⟩
  | 59 => ⟨S1000, .i1⟩
  | 60 => ⟨S1000, .i1⟩
  | 61 => ⟨S1000, .i32⟩
  | 62 => ⟨S1000, .i32⟩
  | 63 => ⟨S1000, .i32⟩
  | 64 => ⟨S_, .i32⟩
  | 65 => ⟨S1000, .i32⟩
  | 66 => ⟨S1000, .i1⟩
  | 67 => ⟨S_, .i32⟩
  | 68 => ⟨S1000, .i32⟩
  | 69 => ⟨S1000, .i32⟩
  | 70 => ⟨S1000, .i32⟩
  | 71 => ⟨S_, .i32⟩
  | 72 => ⟨S1000, .i32⟩
  | 73 => ⟨S1000, .i1⟩
  | 74 => ⟨S_, .i32⟩
  | 75 => ⟨S1000, .i32⟩
  | 76 => ⟨S1000, .i32⟩
  | 77 => ⟨S1000, .i32⟩
  | 78 => ⟨S1000x1, .i32⟩
  | 79 => ⟨S1000x1, .i32⟩
  | 80 => ⟨S1000x2, .i32⟩
  | 81 => ⟨S1000x4, .f32⟩
  | 82 => ⟨S1000, .f32⟩
  | 83 => ⟨S1000x1, .f32⟩
  | 84 => ⟨S_, .f32⟩
  | 85 => ⟨S1000x1, .f32⟩
  | 86 => ⟨S1000x1, .f32⟩
  | 87 => ⟨S1000x4, .f32⟩
  | 88 => ⟨S1000x4, .f32⟩
  | 89 => ⟨S1000x1, .f32⟩
  | 90 => ⟨S1000, .f32⟩
  | 91 => ⟨S1000x1, .f32⟩
  | 92 => ⟨S1000, .f32⟩
  | 93 => ⟨S1000, .f32⟩
  | 94 => ⟨S1000x1, .f32⟩
  | 95 => ⟨S1000, .f32⟩
  | 96 => ⟨S1000x1, .f32⟩
  | 97 => ⟨S1000, .f32⟩
  | 98 => ⟨S1000, .f32⟩
  | 99 => ⟨S1000, .f32⟩
  | 100 => ⟨S1000x2, .f32⟩
  | 101 => ⟨S1000x1x2, .f32⟩
  | 102 => ⟨S1000x2, .f32⟩
  | 103 => ⟨S1x1000x2, .f32⟩
  | 104 => ⟨S1000x1000x2, .f32⟩
  | 105 => ⟨S1000x1000x2, .f32⟩
  | 106 => ⟨S1000x1000x2, .f32⟩
  | 107 => ⟨S1000x2, .f32⟩
  | 108 => ⟨S1000x1x2, .f32⟩
  | 109 => ⟨S1000x2, .f32⟩
  | 110 => ⟨S1x1000x2, .f32⟩
  | 111 => ⟨S1000x1000x2, .f32⟩
  | 112 => ⟨S1000x1000x2, .f32⟩
  | 113 => ⟨S1000x1000x2, .f32⟩
  | 114 => ⟨S1000x1000x2, .f32⟩
  | 115 => ⟨S_, .f32⟩
  | 116 => ⟨S_, .f32⟩
  | 117 => ⟨S1000x1000x2, .f32⟩
  | 118 => ⟨S1000x1000x2, .f32⟩
  | 119 => ⟨S1000x1000x1, .f32⟩
  | 120 => ⟨S1000x1000, .f32⟩
  | 121 => ⟨S1000x1000x1, .f32⟩
  | 122 => ⟨S1000x1000, .f32⟩
  | 123 => ⟨S1000x1000, .f32⟩
  | 124 => ⟨S1000x1, .f32⟩
  | 125 => ⟨S1x1000, .f32⟩
  | 126 => ⟨S1000x1000, .f32⟩
  | 127 => ⟨S1000x1000, .f32⟩
  | _ => ⟨S20000x81, .f32⟩

abbrev hbmTy0_2 (i : Nat) : BufTy := match i % 128 with
  | 0 => ⟨S1000x1000, .f32⟩
  | 1 => ⟨S1000x1000, .f32⟩
  | 2 => ⟨S_, .f32⟩
  | 3 => ⟨S1000x1000, .f32⟩
  | 4 => ⟨S1000x1000, .f32⟩
  | 5 => ⟨S1000x1000, .f32⟩
  | 6 => ⟨S_, .f32⟩
  | 7 => ⟨S1000, .f32⟩
  | 8 => ⟨S1000, .i1⟩
  | 9 => ⟨S1000, .i32⟩
  | 10 => ⟨S_, .i32⟩
  | 11 => ⟨S_, .i32⟩
  | 12 => ⟨S1000x1000, .f32⟩
  | 13 => ⟨S1000, .i32⟩
  | 14 => ⟨S_, .i32⟩
  | 15 => ⟨S_, .i32⟩
  | 16 => ⟨S1000, .i1⟩
  | 17 => ⟨S_, .i32⟩
  | 18 => ⟨S_, .i1⟩
  | 19 => ⟨S_, .i32⟩
  | 20 => ⟨S_, .i32⟩
  | 21 => ⟨S_, .i32⟩
  | 22 => ⟨S_, .i32⟩
  | 23 => ⟨S_, .i1⟩
  | 24 => ⟨S_, .i32⟩
  | 25 => ⟨S_, .i32⟩
  | 26 => ⟨S_, .i32⟩
  | 27 => ⟨S_, .i32⟩
  | 28 => ⟨S_, .i32⟩
  | 29 => ⟨S_, .i1⟩
  | 30 => ⟨S_, .i32⟩
  | 31 => ⟨S_, .i32⟩
  | 32 => ⟨S_, .i32⟩
  | 33 => ⟨S_, .i32⟩
  | 34 => ⟨S_, .i32⟩
  | 35 => ⟨S1x1000, .f32⟩
  | 36 => ⟨S1000, .f32⟩
  | 37 => ⟨S_, .f32⟩
  | 38 => ⟨S1000, .f32⟩
  | 39 => ⟨S1000, .i1⟩
  | 40 => ⟨S_, .i32⟩
  | 41 => ⟨S1000, .i32⟩
  | 42 => ⟨S1000, .i1⟩
  | 43 => ⟨S1000, .i1⟩
  | 44 => ⟨S_, .i32⟩
  | 45 => ⟨S_, .i1⟩
  | 46 => ⟨S_, .i32⟩
  | 47 => ⟨S_, .i32⟩
  | 48 => ⟨S_, .i32⟩
  | 49 => ⟨S_, .i32⟩
  | 50 => ⟨S1, .i1⟩
  | 51 => ⟨S_, .i1⟩
  | 52 => ⟨S1000, .i1⟩
  | 53 => ⟨S1000, .i1⟩
  | 54 => ⟨S1000, .i1⟩
  | 55 => ⟨S1000, .i1⟩
  | 56 => ⟨S_, .i32⟩
  | 57 => ⟨S_, .i32⟩
  | 58 => ⟨S_, .f32⟩
  | 59 => ⟨S_, .f32⟩
  | 60 => ⟨S1000, .f32⟩
  | 61 => ⟨S1000, .f32⟩
  | 62 => ⟨S100, .f32⟩
  | 63 => ⟨S100, .i32⟩
  | 64 => ⟨S_, .i32⟩
  | 65 => ⟨S100, .i32⟩
  | 66 => ⟨S100, .i1⟩
  | 67 => ⟨S_, .i32⟩
  | 68 => ⟨S100, .i32⟩
  | 69 => ⟨S100, .i32⟩
  | 70 => ⟨S100, .i32⟩
  | 71 => ⟨S100x1, .i32⟩
  | 72 => ⟨S100x4, .f32⟩
  | 73 => ⟨S_, .i32⟩
  | 74 => ⟨S100, .i32⟩
  | 75 => ⟨S100, .i1⟩
  | 76 => ⟨S_, .i32⟩
  | 77 => ⟨S100, .i32⟩
  | 78 => ⟨S100, .i32⟩
  | 79 => ⟨S100, .i32⟩
  | 80 => ⟨S100x1, .i32⟩
  | 81 => ⟨S100, .i32⟩
  | 82 => ⟨S100, .f32⟩
  | 83 => ⟨S100x1, .f32⟩
  | 84 => ⟨S100x1, .f32⟩
  | 85 => ⟨S100x6, .f32⟩
  | _ => ⟨S20000x81, .f32⟩

abbrev hbmTy (i : Nat) : BufTy := match i / 128 with
  | 0 => hbmTy0_0 i
  | 1 => hbmTy0_1 i
  | 2 => hbmTy0_2 i
  | _ => ⟨S20000x81, .f32⟩

abbrev bufTy : (tb : Table) → Fin (tcTables nBuf tb) → BufTy
  | .hbm, ⟨i, _⟩ => hbmTy i
  | _, _ => ⟨S20000x81, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_cst_0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_cst_2 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_cst_3 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_cst_4 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_cst_5 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_cst_6 : Ref sig .tc := ⟨.hbm, 55, rfl⟩
abbrev main_v43 : Ref sig .tc := ⟨.hbm, 56, rfl⟩
abbrev main_v44 : Ref sig .tc := ⟨.hbm, 57, rfl⟩
abbrev main_cst_7 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_cst_8 : Ref sig .tc := ⟨.hbm, 63, rfl⟩
abbrev main_v49 : Ref sig .tc := ⟨.hbm, 64, rfl⟩
abbrev main_v50 : Ref sig .tc := ⟨.hbm, 65, rfl⟩
abbrev main_cst_9 : Ref sig .tc := ⟨.hbm, 66, rfl⟩
abbrev main_v51 : Ref sig .tc := ⟨.hbm, 67, rfl⟩
abbrev main_v52 : Ref sig .tc := ⟨.hbm, 68, rfl⟩
abbrev main_v53 : Ref sig .tc := ⟨.hbm, 69, rfl⟩
abbrev main_v54 : Ref sig .tc := ⟨.hbm, 70, rfl⟩
abbrev main_v55 : Ref sig .tc := ⟨.hbm, 71, rfl⟩
abbrev main_v56 : Ref sig .tc := ⟨.hbm, 72, rfl⟩
abbrev main_v57 : Ref sig .tc := ⟨.hbm, 73, rfl⟩
abbrev main_v58 : Ref sig .tc := ⟨.hbm, 74, rfl⟩
abbrev main_v59 : Ref sig .tc := ⟨.hbm, 75, rfl⟩
abbrev main_v60 : Ref sig .tc := ⟨.hbm, 76, rfl⟩
abbrev main_v61 : Ref sig .tc := ⟨.hbm, 77, rfl⟩
abbrev main_v62 : Ref sig .tc := ⟨.hbm, 78, rfl⟩
abbrev main_v63 : Ref sig .tc := ⟨.hbm, 79, rfl⟩
abbrev main_v64 : Ref sig .tc := ⟨.hbm, 80, rfl⟩
abbrev main_v65 : Ref sig .tc := ⟨.hbm, 81, rfl⟩
abbrev main_v66 : Ref sig .tc := ⟨.hbm, 82, rfl⟩
abbrev main_v67 : Ref sig .tc := ⟨.hbm, 83, rfl⟩
abbrev main_v68 : Ref sig .tc := ⟨.hbm, 84, rfl⟩
abbrev main_v69 : Ref sig .tc := ⟨.hbm, 85, rfl⟩
abbrev main_v70 : Ref sig .tc := ⟨.hbm, 86, rfl⟩
abbrev main_v71 : Ref sig .tc := ⟨.hbm, 87, rfl⟩
abbrev main_v72 : Ref sig .tc := ⟨.hbm, 88, rfl⟩
abbrev main_cst_10 : Ref sig .tc := ⟨.hbm, 89, rfl⟩
abbrev main_v73 : Ref sig .tc := ⟨.hbm, 90, rfl⟩
abbrev main_v74 : Ref sig .tc := ⟨.hbm, 91, rfl⟩
abbrev main_v75 : Ref sig .tc := ⟨.hbm, 92, rfl⟩
abbrev main_cst_11 : Ref sig .tc := ⟨.hbm, 93, rfl⟩
abbrev main_c : Ref sig .tc := ⟨.hbm, 94, rfl⟩
abbrev main_call0_v0 : Ref sig .tc := ⟨.hbm, 95, rfl⟩
abbrev main_call0_v1 : Ref sig .tc := ⟨.hbm, 96, rfl⟩
abbrev main_call0_v2 : Ref sig .tc := ⟨.hbm, 97, rfl⟩
abbrev main_call0_v3 : Ref sig .tc := ⟨.hbm, 98, rfl⟩
abbrev main_call0_v4 : Ref sig .tc := ⟨.hbm, 99, rfl⟩
abbrev main_v76 : Ref sig .tc := ⟨.hbm, 100, rfl⟩
abbrev main_cst_12 : Ref sig .tc := ⟨.hbm, 101, rfl⟩
abbrev main_v77 : Ref sig .tc := ⟨.hbm, 102, rfl⟩
abbrev main_v78 : Ref sig .tc := ⟨.hbm, 103, rfl⟩
abbrev main_v79 : Ref sig .tc := ⟨.hbm, 104, rfl⟩
abbrev main_cst_13 : Ref sig .tc := ⟨.hbm, 105, rfl⟩
abbrev main_c_14 : Ref sig .tc := ⟨.hbm, 106, rfl⟩
abbrev main_call1_v0 : Ref sig .tc := ⟨.hbm, 107, rfl⟩
abbrev main_call1_v1 : Ref sig .tc := ⟨.hbm, 108, rfl⟩
abbrev main_call1_v2 : Ref sig .tc := ⟨.hbm, 109, rfl⟩
abbrev main_call1_v3 : Ref sig .tc := ⟨.hbm, 110, rfl⟩
abbrev main_call1_v4 : Ref sig .tc := ⟨.hbm, 111, rfl⟩
abbrev main_v80 : Ref sig .tc := ⟨.hbm, 112, rfl⟩
abbrev main_cst_15 : Ref sig .tc := ⟨.hbm, 113, rfl⟩
abbrev main_v81 : Ref sig .tc := ⟨.hbm, 114, rfl⟩
abbrev main_v82 : Ref sig .tc := ⟨.hbm, 115, rfl⟩
abbrev main_v83 : Ref sig .tc := ⟨.hbm, 116, rfl⟩
abbrev main_cst_16 : Ref sig .tc := ⟨.hbm, 117, rfl⟩
abbrev main_c_17 : Ref sig .tc := ⟨.hbm, 118, rfl⟩
abbrev main_call2_v0 : Ref sig .tc := ⟨.hbm, 119, rfl⟩
abbrev main_call2_v1 : Ref sig .tc := ⟨.hbm, 120, rfl⟩
abbrev main_call2_v2 : Ref sig .tc := ⟨.hbm, 121, rfl⟩
abbrev main_call2_v3 : Ref sig .tc := ⟨.hbm, 122, rfl⟩
abbrev main_call2_v4 : Ref sig .tc := ⟨.hbm, 123, rfl⟩
abbrev main_v84 : Ref sig .tc := ⟨.hbm, 124, rfl⟩
abbrev main_cst_18 : Ref sig .tc := ⟨.hbm, 125, rfl⟩
abbrev main_v85 : Ref sig .tc := ⟨.hbm, 126, rfl⟩
abbrev main_v86 : Ref sig .tc := ⟨.hbm, 127, rfl⟩
abbrev main_v87 : Ref sig .tc := ⟨.hbm, 128, rfl⟩
abbrev main_cst_19 : Ref sig .tc := ⟨.hbm, 129, rfl⟩
abbrev main_c_20 : Ref sig .tc := ⟨.hbm, 130, rfl⟩
abbrev main_call3_v0 : Ref sig .tc := ⟨.hbm, 131, rfl⟩
abbrev main_call3_v1 : Ref sig .tc := ⟨.hbm, 132, rfl⟩
abbrev main_call3_v2 : Ref sig .tc := ⟨.hbm, 133, rfl⟩
abbrev main_call3_v3 : Ref sig .tc := ⟨.hbm, 134, rfl⟩
abbrev main_call3_v4 : Ref sig .tc := ⟨.hbm, 135, rfl⟩
abbrev main_v88 : Ref sig .tc := ⟨.hbm, 136, rfl⟩
abbrev main_v89 : Ref sig .tc := ⟨.hbm, 137, rfl⟩
abbrev main_v90 : Ref sig .tc := ⟨.hbm, 138, rfl⟩
abbrev main_v91 : Ref sig .tc := ⟨.hbm, 139, rfl⟩
abbrev main_v92 : Ref sig .tc := ⟨.hbm, 140, rfl⟩
abbrev main_v93 : Ref sig .tc := ⟨.hbm, 141, rfl⟩
abbrev main_v94 : Ref sig .tc := ⟨.hbm, 142, rfl⟩
abbrev main_values : Ref sig .tc := ⟨.hbm, 143, rfl⟩
abbrev main_indices : Ref sig .tc := ⟨.hbm, 144, rfl⟩
abbrev main_cst_21 : Ref sig .tc := ⟨.hbm, 145, rfl⟩
abbrev main_v95 : Ref sig .tc := ⟨.hbm, 146, rfl⟩
abbrev main_v96 : Ref sig .tc := ⟨.hbm, 147, rfl⟩
abbrev main_cst_22 : Ref sig .tc := ⟨.hbm, 148, rfl⟩
abbrev main_call4_v0 : Ref sig .tc := ⟨.hbm, 149, rfl⟩
abbrev main_call4_v1 : Ref sig .tc := ⟨.hbm, 150, rfl⟩
abbrev main_v97 : Ref sig .tc := ⟨.hbm, 151, rfl⟩
abbrev main_c_23 : Ref sig .tc := ⟨.hbm, 152, rfl⟩
abbrev main_call5_v0 : Ref sig .tc := ⟨.hbm, 153, rfl⟩
abbrev main_call5_v1 : Ref sig .tc := ⟨.hbm, 154, rfl⟩
abbrev main_call5_v2 : Ref sig .tc := ⟨.hbm, 155, rfl⟩
abbrev main_call5_v3 : Ref sig .tc := ⟨.hbm, 156, rfl⟩
abbrev main_call5_v4 : Ref sig .tc := ⟨.hbm, 157, rfl⟩
abbrev main_call5_v5 : Ref sig .tc := ⟨.hbm, 158, rfl⟩
abbrev main_call5_v6 : Ref sig .tc := ⟨.hbm, 159, rfl⟩
abbrev main_call5_v7 : Ref sig .tc := ⟨.hbm, 160, rfl⟩
abbrev main_call5_v8 : Ref sig .tc := ⟨.hbm, 161, rfl⟩
abbrev main_call5_c : Ref sig .tc := ⟨.hbm, 162, rfl⟩
abbrev main_call5_v9 : Ref sig .tc := ⟨.hbm, 163, rfl⟩
abbrev main_call5_v10 : Ref sig .tc := ⟨.hbm, 164, rfl⟩
abbrev main_call5_v11 : Ref sig .tc := ⟨.hbm, 165, rfl⟩
abbrev main_call5_c_0 : Ref sig .tc := ⟨.hbm, 166, rfl⟩
abbrev main_call5_v12 : Ref sig .tc := ⟨.hbm, 167, rfl⟩
abbrev main_call5_v13 : Ref sig .tc := ⟨.hbm, 168, rfl⟩
abbrev main_v98 : Ref sig .tc := ⟨.hbm, 169, rfl⟩
abbrev main_c_24 : Ref sig .tc := ⟨.hbm, 170, rfl⟩
abbrev main_call6_v0 : Ref sig .tc := ⟨.hbm, 171, rfl⟩
abbrev main_call6_c : Ref sig .tc := ⟨.hbm, 172, rfl⟩
abbrev main_call6_v1 : Ref sig .tc := ⟨.hbm, 173, rfl⟩
abbrev main_call6_c_0 : Ref sig .tc := ⟨.hbm, 174, rfl⟩
abbrev main_call6_v2 : Ref sig .tc := ⟨.hbm, 175, rfl⟩
abbrev main_call6_v3 : Ref sig .tc := ⟨.hbm, 176, rfl⟩
abbrev main_call6_v4 : Ref sig .tc := ⟨.hbm, 177, rfl⟩
abbrev main_call6_c_1 : Ref sig .tc := ⟨.hbm, 178, rfl⟩
abbrev main_call6_v5 : Ref sig .tc := ⟨.hbm, 179, rfl⟩
abbrev main_call6_v6 : Ref sig .tc := ⟨.hbm, 180, rfl⟩
abbrev main_call6_c_2 : Ref sig .tc := ⟨.hbm, 181, rfl⟩
abbrev main_call6_v7 : Ref sig .tc := ⟨.hbm, 182, rfl⟩
abbrev main_call6_v8 : Ref sig .tc := ⟨.hbm, 183, rfl⟩
abbrev main_call6_c_3 : Ref sig .tc := ⟨.hbm, 184, rfl⟩
abbrev main_call6_v9 : Ref sig .tc := ⟨.hbm, 185, rfl⟩
abbrev main_call6_v10 : Ref sig .tc := ⟨.hbm, 186, rfl⟩
abbrev main_call6_v11 : Ref sig .tc := ⟨.hbm, 187, rfl⟩
abbrev main_call6_v12 : Ref sig .tc := ⟨.hbm, 188, rfl⟩
abbrev main_call6_v13 : Ref sig .tc := ⟨.hbm, 189, rfl⟩
abbrev main_call6_v14 : Ref sig .tc := ⟨.hbm, 190, rfl⟩
abbrev main_v99 : Ref sig .tc := ⟨.hbm, 191, rfl⟩
abbrev main_c_25 : Ref sig .tc := ⟨.hbm, 192, rfl⟩
abbrev main_v100 : Ref sig .tc := ⟨.hbm, 193, rfl⟩
abbrev main_v101 : Ref sig .tc := ⟨.hbm, 194, rfl⟩
abbrev main_c_26 : Ref sig .tc := ⟨.hbm, 195, rfl⟩
abbrev main_v102 : Ref sig .tc := ⟨.hbm, 196, rfl⟩
abbrev main_v103 : Ref sig .tc := ⟨.hbm, 197, rfl⟩
abbrev main_v104 : Ref sig .tc := ⟨.hbm, 198, rfl⟩
abbrev main_c_27 : Ref sig .tc := ⟨.hbm, 199, rfl⟩
abbrev main_v105 : Ref sig .tc := ⟨.hbm, 200, rfl⟩
abbrev main_v106 : Ref sig .tc := ⟨.hbm, 201, rfl⟩
abbrev main_c_28 : Ref sig .tc := ⟨.hbm, 202, rfl⟩
abbrev main_v107 : Ref sig .tc := ⟨.hbm, 203, rfl⟩
abbrev main_v108 : Ref sig .tc := ⟨.hbm, 204, rfl⟩
abbrev main_v109 : Ref sig .tc := ⟨.hbm, 205, rfl⟩
abbrev main_v110 : Ref sig .tc := ⟨.hbm, 206, rfl⟩
abbrev main_v111 : Ref sig .tc := ⟨.hbm, 207, rfl⟩
abbrev main_v112 : Ref sig .tc := ⟨.hbm, 208, rfl⟩
abbrev main_v113 : Ref sig .tc := ⟨.hbm, 209, rfl⟩
abbrev main_v114 : Ref sig .tc := ⟨.hbm, 210, rfl⟩
abbrev main_v115 : Ref sig .tc := ⟨.hbm, 211, rfl⟩
abbrev main_cst_29 : Ref sig .tc := ⟨.hbm, 212, rfl⟩
abbrev main_v116 : Ref sig .tc := ⟨.hbm, 213, rfl⟩
abbrev main_v117 : Ref sig .tc := ⟨.hbm, 214, rfl⟩
abbrev main_v118 : Ref sig .tc := ⟨.hbm, 215, rfl⟩
abbrev main_v119 : Ref sig .tc := ⟨.hbm, 216, rfl⟩
abbrev main_v120 : Ref sig .tc := ⟨.hbm, 217, rfl⟩
abbrev main_v121 : Ref sig .tc := ⟨.hbm, 218, rfl⟩
abbrev main_v122 : Ref sig .tc := ⟨.hbm, 219, rfl⟩
abbrev main_v123 : Ref sig .tc := ⟨.hbm, 220, rfl⟩
abbrev main_v124 : Ref sig .tc := ⟨.hbm, 221, rfl⟩
abbrev main_v125 : Ref sig .tc := ⟨.hbm, 222, rfl⟩
abbrev main_v126 : Ref sig .tc := ⟨.hbm, 223, rfl⟩
abbrev main_v127 : Ref sig .tc := ⟨.hbm, 224, rfl⟩
abbrev main_v128 : Ref sig .tc := ⟨.hbm, 225, rfl⟩
abbrev main_v129 : Ref sig .tc := ⟨.hbm, 226, rfl⟩
abbrev main_v130 : Ref sig .tc := ⟨.hbm, 227, rfl⟩
abbrev main_v131 : Ref sig .tc := ⟨.hbm, 228, rfl⟩
abbrev main_v132 : Ref sig .tc := ⟨.hbm, 229, rfl⟩
abbrev main_v133 : Ref sig .tc := ⟨.hbm, 230, rfl⟩
abbrev main_v134 : Ref sig .tc := ⟨.hbm, 231, rfl⟩
abbrev main_v135 : Ref sig .tc := ⟨.hbm, 232, rfl⟩
abbrev main_v136 : Ref sig .tc := ⟨.hbm, 233, rfl⟩
abbrev main_v137 : Ref sig .tc := ⟨.hbm, 234, rfl⟩
abbrev main_v138 : Ref sig .tc := ⟨.hbm, 235, rfl⟩
abbrev main_v139 : Ref sig .tc := ⟨.hbm, 236, rfl⟩
abbrev main_v140 : Ref sig .tc := ⟨.hbm, 237, rfl⟩
abbrev main_v141 : Ref sig .tc := ⟨.hbm, 238, rfl⟩
abbrev main_v142 : Ref sig .tc := ⟨.hbm, 239, rfl⟩
abbrev main_v143 : Ref sig .tc := ⟨.hbm, 240, rfl⟩
abbrev main_v144 : Ref sig .tc := ⟨.hbm, 241, rfl⟩
abbrev main_v145 : Ref sig .tc := ⟨.hbm, 242, rfl⟩
abbrev main_cst_30 : Ref sig .tc := ⟨.hbm, 243, rfl⟩
abbrev main_call7_v0 : Ref sig .tc := ⟨.hbm, 244, rfl⟩
abbrev main_call7_v1 : Ref sig .tc := ⟨.hbm, 245, rfl⟩
abbrev main_v146 : Ref sig .tc := ⟨.hbm, 246, rfl⟩
abbrev main_v147 : Ref sig .tc := ⟨.hbm, 247, rfl⟩
abbrev main_v148 : Ref sig .tc := ⟨.hbm, 248, rfl⟩
abbrev main_v149 : Ref sig .tc := ⟨.hbm, 249, rfl⟩
abbrev main_v150 : Ref sig .tc := ⟨.hbm, 250, rfl⟩
abbrev main_v151 : Ref sig .tc := ⟨.hbm, 251, rfl⟩
abbrev main_v152 : Ref sig .tc := ⟨.hbm, 252, rfl⟩
abbrev main_v153 : Ref sig .tc := ⟨.hbm, 253, rfl⟩
abbrev main_v154 : Ref sig .tc := ⟨.hbm, 254, rfl⟩
abbrev main_v155 : Ref sig .tc := ⟨.hbm, 255, rfl⟩
abbrev main_v156 : Ref sig .tc := ⟨.hbm, 256, rfl⟩
abbrev main_v157 : Ref sig .tc := ⟨.hbm, 257, rfl⟩
abbrev main_cst_31 : Ref sig .tc := ⟨.hbm, 258, rfl⟩
abbrev main_v158 : Ref sig .tc := ⟨.hbm, 259, rfl⟩
abbrev main_v159 : Ref sig .tc := ⟨.hbm, 260, rfl⟩
abbrev main_v160 : Ref sig .tc := ⟨.hbm, 261, rfl⟩
abbrev main_cst_32 : Ref sig .tc := ⟨.hbm, 262, rfl⟩
abbrev main_v161 : Ref sig .tc := ⟨.hbm, 263, rfl⟩
abbrev main_v162 : Ref sig .tc := ⟨.hbm, 264, rfl⟩
abbrev main_v163 : Ref sig .tc := ⟨.hbm, 265, rfl⟩
abbrev main_c_33 : Ref sig .tc := ⟨.hbm, 266, rfl⟩
abbrev main_c_34 : Ref sig .tc := ⟨.hbm, 267, rfl⟩
abbrev main_v164_0 : Ref sig .tc := ⟨.hbm, 268, rfl⟩
abbrev main_v164_1 : Ref sig .tc := ⟨.hbm, 269, rfl⟩
abbrev main_v164_2 : Ref sig .tc := ⟨.hbm, 270, rfl⟩
abbrev main_v164_3 : Ref sig .tc := ⟨.hbm, 271, rfl⟩
abbrev main_v164_4 : Ref sig .tc := ⟨.hbm, 272, rfl⟩
abbrev main_while0c_c_46 : Ref sig .tc := ⟨.hbm, 273, rfl⟩
abbrev main_while0c_v184 : Ref sig .tc := ⟨.hbm, 274, rfl⟩
abbrev main_while0b_c_46 : Ref sig .tc := ⟨.hbm, 275, rfl⟩
abbrev main_while0b_v184 : Ref sig .tc := ⟨.hbm, 276, rfl⟩
abbrev main_while0b_v185 : Ref sig .tc := ⟨.hbm, 277, rfl⟩
abbrev main_while0b_c_47 : Ref sig .tc := ⟨.hbm, 278, rfl⟩
abbrev main_while0b_v186 : Ref sig .tc := ⟨.hbm, 279, rfl⟩
abbrev main_while0b_c_48 : Ref sig .tc := ⟨.hbm, 280, rfl⟩
abbrev main_while0b_v187 : Ref sig .tc := ⟨.hbm, 281, rfl⟩
abbrev main_while0b_v188 : Ref sig .tc := ⟨.hbm, 282, rfl⟩
abbrev main_while0b_c_49 : Ref sig .tc := ⟨.hbm, 283, rfl⟩
abbrev main_while0b_c_50 : Ref sig .tc := ⟨.hbm, 284, rfl⟩
abbrev main_while0b_v189 : Ref sig .tc := ⟨.hbm, 285, rfl⟩
abbrev main_while0b_c_51 : Ref sig .tc := ⟨.hbm, 286, rfl⟩
abbrev main_while0b_c_52 : Ref sig .tc := ⟨.hbm, 287, rfl⟩
abbrev main_while0b_v190 : Ref sig .tc := ⟨.hbm, 288, rfl⟩
abbrev main_while0b_c_53 : Ref sig .tc := ⟨.hbm, 289, rfl⟩
abbrev main_while0b_v191 : Ref sig .tc := ⟨.hbm, 290, rfl⟩
abbrev main_while0b_v192 : Ref sig .tc := ⟨.hbm, 291, rfl⟩
abbrev main_while0b_v193 : Ref sig .tc := ⟨.hbm, 292, rfl⟩
abbrev main_while0b_cst_54 : Ref sig .tc := ⟨.hbm, 293, rfl⟩
abbrev main_while0b_v194 : Ref sig .tc := ⟨.hbm, 294, rfl⟩
abbrev main_while0b_v195 : Ref sig .tc := ⟨.hbm, 295, rfl⟩
abbrev main_while0b_v196 : Ref sig .tc := ⟨.hbm, 296, rfl⟩
abbrev main_while0b_v197 : Ref sig .tc := ⟨.hbm, 297, rfl⟩
abbrev main_while0b_v198 : Ref sig .tc := ⟨.hbm, 298, rfl⟩
abbrev main_while0b_v199 : Ref sig .tc := ⟨.hbm, 299, rfl⟩
abbrev main_while0b_c_55 : Ref sig .tc := ⟨.hbm, 300, rfl⟩
abbrev main_while0b_v200 : Ref sig .tc := ⟨.hbm, 301, rfl⟩
abbrev main_while0b_v201 : Ref sig .tc := ⟨.hbm, 302, rfl⟩
abbrev main_while0b_c_56 : Ref sig .tc := ⟨.hbm, 303, rfl⟩
abbrev main_while0b_v202 : Ref sig .tc := ⟨.hbm, 304, rfl⟩
abbrev main_while0b_v203 : Ref sig .tc := ⟨.hbm, 305, rfl⟩
abbrev main_while0b_v204 : Ref sig .tc := ⟨.hbm, 306, rfl⟩
abbrev main_while0b_v205 : Ref sig .tc := ⟨.hbm, 307, rfl⟩
abbrev main_while0b_v206 : Ref sig .tc := ⟨.hbm, 308, rfl⟩
abbrev main_while0b_v207 : Ref sig .tc := ⟨.hbm, 309, rfl⟩
abbrev main_while0b_v208 : Ref sig .tc := ⟨.hbm, 310, rfl⟩
abbrev main_while0b_v209 : Ref sig .tc := ⟨.hbm, 311, rfl⟩
abbrev main_while0b_c_57 : Ref sig .tc := ⟨.hbm, 312, rfl⟩
abbrev main_while0b_v210 : Ref sig .tc := ⟨.hbm, 313, rfl⟩
abbrev main_cst_35 : Ref sig .tc := ⟨.hbm, 314, rfl⟩
abbrev main_call8_v0 : Ref sig .tc := ⟨.hbm, 315, rfl⟩
abbrev main_call8_v1 : Ref sig .tc := ⟨.hbm, 316, rfl⟩
abbrev main_v165 : Ref sig .tc := ⟨.hbm, 317, rfl⟩
abbrev main_values_36 : Ref sig .tc := ⟨.hbm, 318, rfl⟩
abbrev main_indices_37 : Ref sig .tc := ⟨.hbm, 319, rfl⟩
abbrev main_c_38 : Ref sig .tc := ⟨.hbm, 320, rfl⟩
abbrev main_v166 : Ref sig .tc := ⟨.hbm, 321, rfl⟩
abbrev main_v167 : Ref sig .tc := ⟨.hbm, 322, rfl⟩
abbrev main_c_39 : Ref sig .tc := ⟨.hbm, 323, rfl⟩
abbrev main_v168 : Ref sig .tc := ⟨.hbm, 324, rfl⟩
abbrev main_v169 : Ref sig .tc := ⟨.hbm, 325, rfl⟩
abbrev main_v170 : Ref sig .tc := ⟨.hbm, 326, rfl⟩
abbrev main_v171 : Ref sig .tc := ⟨.hbm, 327, rfl⟩
abbrev main_v172 : Ref sig .tc := ⟨.hbm, 328, rfl⟩
abbrev main_c_40 : Ref sig .tc := ⟨.hbm, 329, rfl⟩
abbrev main_v173 : Ref sig .tc := ⟨.hbm, 330, rfl⟩
abbrev main_v174 : Ref sig .tc := ⟨.hbm, 331, rfl⟩
abbrev main_c_41 : Ref sig .tc := ⟨.hbm, 332, rfl⟩
abbrev main_v175 : Ref sig .tc := ⟨.hbm, 333, rfl⟩
abbrev main_v176 : Ref sig .tc := ⟨.hbm, 334, rfl⟩
abbrev main_v177 : Ref sig .tc := ⟨.hbm, 335, rfl⟩
abbrev main_v178 : Ref sig .tc := ⟨.hbm, 336, rfl⟩
abbrev main_v179 : Ref sig .tc := ⟨.hbm, 337, rfl⟩
abbrev main_v180 : Ref sig .tc := ⟨.hbm, 338, rfl⟩
abbrev main_v181 : Ref sig .tc := ⟨.hbm, 339, rfl⟩
abbrev main_v182 : Ref sig .tc := ⟨.hbm, 340, rfl⟩
abbrev main_v183 : Ref sig .tc := ⟨.hbm, 341, rfl⟩

abbrev nD : Nat := 1
abbrev τ : Topo := Topo.v7x

variable {F : FTy → Type} [FloatOps F]

abbrev main_while0_count : Scf.Loop 32 := ⟨0#32, 1000#32, 1#32⟩
-- ==== Scores.lean ====
abbrev S20000x81 : Shape := ⟨2, ![20000, 81]⟩
abbrev S20000x80 : Shape := ⟨2, ![20000, 80]⟩
abbrev S2000x81 : Shape := ⟨2, ![2000, 81]⟩
abbrev S2000x80 : Shape := ⟨2, ![2000, 80]⟩
abbrev S2000 : Shape := ⟨1, ![2000]⟩
abbrev S2000x1 : Shape := ⟨2, ![2000, 1]⟩

abbrev nBuf : Space → Nat
  | .hbm => 2
  | .vmem => 4
  | .smem => 0
  | _ => 0

abbrev bufTy : (tb : Table) → Fin (tcTables nBuf tb) → BufTy
  | .hbm, ⟨0, _⟩ => ⟨S20000x81, .f32⟩
  | .hbm, ⟨1, _⟩ => ⟨S20000x80, .f32⟩
  | .local _ .vmem, ⟨0, _⟩ => ⟨S2000x81, .f32⟩
  | .local _ .vmem, ⟨1, _⟩ => ⟨S2000x81, .f32⟩
  | .local _ .vmem, ⟨2, _⟩ => ⟨S2000x80, .f32⟩
  | .local _ .vmem, ⟨3, _⟩ => ⟨S2000x80, .f32⟩
  | _, _ => ⟨S20000x81, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x81 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2000x80 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]
-- ==== ScoresReferenceIdeal.lean ====
abbrev S20000x81 : Shape := ⟨2, ![20000, 81]⟩
abbrev S_ : Shape := ⟨0, ![]⟩
abbrev S20000 : Shape := ⟨1, ![20000]⟩
abbrev S20000x1 : Shape := ⟨2, ![20000, 1]⟩
abbrev S20000x80 : Shape := ⟨2, ![20000, 80]⟩

abbrev nBuf : Space → Nat
  | .hbm => 16
  | .vmem => 0
  | .smem => 0
  | _ => 0

abbrev bufTy : (tb : Table) → Fin (tcTables nBuf tb) → BufTy
  | .hbm, ⟨0, _⟩ => ⟨S20000x81, .f32⟩
  | .hbm, ⟨1, _⟩ => ⟨S_, .f32⟩
  | .hbm, ⟨2, _⟩ => ⟨S20000, .f32⟩
  | .hbm, ⟨3, _⟩ => ⟨S_, .f32⟩
  | .hbm, ⟨4, _⟩ => ⟨S20000, .f32⟩
  | .hbm, ⟨5, _⟩ => ⟨S20000, .f32⟩
  | .hbm, ⟨6, _⟩ => ⟨S20000x1, .f32⟩
  | .hbm, ⟨7, _⟩ => ⟨S20000x81, .f32⟩
  | .hbm, ⟨8, _⟩ => ⟨S20000x81, .f32⟩
  | .hbm, ⟨9, _⟩ => ⟨S20000x81, .f32⟩
  | .hbm, ⟨10, _⟩ => ⟨S_, .f32⟩
  | .hbm, ⟨11, _⟩ => ⟨S20000, .f32⟩
  | .hbm, ⟨12, _⟩ => ⟨S20000x1, .f32⟩
  | .hbm, ⟨13, _⟩ => ⟨S20000x81, .f32⟩
  | .hbm, ⟨14, _⟩ => ⟨S20000x81, .f32⟩
  | .hbm, ⟨15, _⟩ => ⟨S20000x80, .f32⟩
  | _, _ => ⟨S20000x81, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩
abbrev main_cst_0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_cst_1 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩

abbrev nD : Nat := 1
abbrev τ : Topo := Topo.v7x

variable {F : FTy → Type} [FloatOps F]
-- ==== Proof.Soft.lean ====
/-  The softmax of every row of scores, without the last column: what the softmax call leaves, and its reference. -/
module

public import proofs.«01_k».proof.Proof.Gen.ScoresIdeal.Value
public import proofs.«01_k».proof.Proof.Gen.ScoresReferenceIdeal.Read
public import Idealize.ShloMosaic.Lib.KernelVsHost
public import Idealize.ShloMosaic.Lib.ValueIdx

@[expose] public section

set_option maxRecDepth 16384

noncomputable section

namespace Cert.Soft

open Idealize.ShloMosaic Idealize.ShloMosaic.TcCoe Idealize.SL.Sem

/-- The largest of 81 extended reals, taken as the programs take it (from the word of `-∞`). -/
def top (r : Fin 81 → EReal) : EReal :=
  (Finset.univ : Finset (Fin 81)).fold max (FloatOps.ofBits (F := Ideal) .f32 0xFF800000#32) r

/-- The softmax of a row of 81 extended reals. -/
def soft (r : Fin 81 → EReal) (k : Fin 81) : EReal :=
  Ideal.div (Ideal.exp (r k - top r)) (∑ l : Fin 81, Ideal.exp (r l - top r))

/-- Row `n`, column `k` of the scores. -/
abbrev atS {N : Nat} (n : Fin N) (k : Fin 81) : (⟨2, ![N, 81]⟩ : Shape).Idx := fun a => match a with
  | ⟨0, _⟩ => n
  | ⟨1, _⟩ => k

/-- The softmax of every row of the scores, without the last column. -/
def G {N : Nat} (x : (⟨2, ![N, 81]⟩ : Shape).Idx → EReal) : (⟨2, ![N, 80]⟩ : Shape).Idx → EReal := fun i =>
  soft (fun k => x (atS (N := N) (i 0) k)) ⟨(i 1).val, Nat.lt_succ_of_lt (i 1).isLt⟩

/-- The word of minus infinity is the least of the extended reals. -/
theorem neg_inf : (FloatOps.ofBits (F := Ideal) .f32 0xFF800000#32 : EReal) = ⊥ := by
  show Ideal.ofBits .f32 0xFF800000#32 = ⊥
  simp [Ideal.ofBits, Ideal.ieee]

section Block
open Cert.ScoresIdeal Cert.ScoresIdeal.Gen Cert.ScoresIdeal.Value

/-- A block's row maximum. -/
theorem blockMax (P : Vec Ideal S2000x81 .f32) (j : S2000.Idx) :
    (multiReduction (F := Ideal) .maximumf [1] S2000 P 0xFF800000#32 reduces_S2000x81_S2000 (.inl rfl) rfl j : EReal)
      = top (fun k => P (atS (N := 2000) (j 0) k)) := by
  refine (Ideal.multiReduction_maximumf_single P _ _ _ _ j).trans ?_
  unfold top
  refine Finset.fold_congr fun k _ => ?_
  exact congrArg P (funext fun a => Fin.ext (by match a with | ⟨0, _⟩ => rfl | ⟨1, _⟩ => rfl))

/-- A block's row sum of exponentials. -/
theorem blockSum (P : Vec Ideal S2000x81 .f32) (j : S2000.Idx) :
    (multiReduction (F := Ideal) .add [1] S2000 (exp (subf P (broadcastTo S2000x81 (shapeCast S2000x1 (multiReduction .maximumf [1] S2000 P 0xFF800000#32 reduces_S2000x81_S2000 (.inl rfl) rfl) shapeCasts_S2000_S2000x1) broadcasts_S2000x1_S2000x81))) 0x00000000#32 reduces_S2000x81_S2000 (.inl rfl) rfl j : EReal)
      = ∑ l : Fin 81, Ideal.exp (P (atS (N := 2000) (j 0) l) - top (fun k => P (atS (N := 2000) (j 0) k))) := by
  refine (Ideal.multiReduction_add_single _ _ _ _ _ j).trans ?_
  refine Finset.sum_congr rfl fun l _ => ?_
  have hi : (reduces_S2000x81_S2000.lift j l : S2000x81.Idx) = atS (N := 2000) (j 0) l :=
    funext fun a => Fin.ext (by match a with | ⟨0, _⟩ => rfl | ⟨1, _⟩ => rfl)
  rw [hi]
  show Ideal.exp (P (atS (N := 2000) (j 0) l) - broadcastTo S2000x81 _ _ (atS (N := 2000) (j 0) l)) = _
  refine congrArg (fun z : EReal => Ideal.exp (P (atS (N := 2000) (j 0) l) - z)) ?_
  refine (broadcastTo_apply _ _ (atS (N := 2000) (j 0) l) (fun a => match a with | ⟨0, _⟩ => j 0 | ⟨1, _⟩ => ⟨0, Nat.one_pos⟩ : S2000x1.Idx)
    (fun a => match a with | ⟨0, _⟩ => by show (j 0).val = (if (2000 : Nat) = 1 then 0 else (j 0).val); rw [if_neg (by decide)]
                           | ⟨1, _⟩ => by show 0 = (if (1 : Nat) = 1 then 0 else l.val); rw [if_pos rfl])).trans ?_
  refine (shapeCast_apply _ _ (fun a => match a with | ⟨0, _⟩ => j 0 | ⟨1, _⟩ => ⟨0, Nat.one_pos⟩ : S2000x1.Idx) j
    (by rw [Shape.rowMajor_val_one, Shape.rowMajor_val_two]; show (j 0).val = (j 0).val * 1 + 0; omega)).trans (blockMax P j)

/-- The block that the softmax call leaves is the softmax of the rows of the block it reads. -/
theorem block_eq (P : Vec Ideal S2000x81 .f32) : (View.canon [⟨r0_1, k0_pay1 P⟩] : Vec Ideal S2000x80 .f32) = G (N := 2000) P := by
  funext y
  rw [canon1_eq P y]
  have e1 : ix1_0 y = atS (N := 2000) (y 0) ⟨(y 1).val, Nat.lt_succ_of_lt (y 1).isLt⟩ :=
    funext fun a => Fin.ext (by match a with | ⟨0, _⟩ => rfl | ⟨1, _⟩ => rfl)
  show Ideal.div (Ideal.exp (P (ix1_0 y) - _)) _ = Ideal.div (Ideal.exp _) _
  rw [blockMax P (ix1_1 y), blockSum P (ix1_2 y), e1]
  rfl

/-- The whole block read through the whole rectangle is itself. -/
theorem ld_whole (x : Vec Ideal S2000x81 .f32) : View.ld x r0_0 = x := by
  funext z
  refine congrArg x (funext fun a => Fin.ext ?_)
  match a with
  | ⟨0, _⟩ => show 0 + 1 * (z 0).val = (z 0).val; omega
  | ⟨1, _⟩ => show 0 + 1 * (z 1).val = (z 1).val; omega

/-- Trip `t` reads and writes the `t`-th block of rows, and writes it back. -/
theorem idx_facts : ∀ t : Fin cfg0.N, win0_0.index t (0 : Fin 2) = t.val ∧ win0_0.index t (1 : Fin 2) = 0
    ∧ win0_1.index t (0 : Fin 2) = t.val ∧ win0_1.index t (1 : Fin 2) = 0 ∧ (cfg0.win 1).flush t = true :=
  (by decide +kernel : ∀ t : Fin grid0.N, _)

variable (m : (ℓ : Loc nD τ sig) → Buf (Elt Ideal) ℓ)

/-- Every block that the call writes back is that block of the softmax of all rows. -/
theorem flushed_eq (c : Dev nD) (t : Fin cfg0.N) :
    (dats m 0 c).flushed 1 t = ((cfg0.win 1).blk t).view.read (Elt Ideal) (G (N := 20000) (m ((c : Thread nD τ).loc main_arg0))) := by
  rw [flushed1, out0_1, ld_whole, block_eq]
  obtain ⟨e0, e1, e2, e3, -⟩ := idx_facts t
  funext y
  show soft _ _ = soft _ _
  have hk : ∀ k : Fin 81, iblk m c 0 t (atS (N := 2000) (y 0) k)
      = m ((c : Thread nD τ).loc main_arg0) (atS (N := 20000) (((cfg0.win 1).blk t).view.emb y 0) k) := by
    intro k
    show m ((c : Thread nD τ).loc main_arg0) (((cfg0.win 0).blk t).view.emb (atS (N := 2000) (y 0) k)) = _
    refine congrArg _ (funext fun a => Fin.ext ?_)
    match a with
    | ⟨0, _⟩ => show win0_0.index t (0 : Fin 2) * 2000 + 1 * (y 0).val = win0_1.index t (0 : Fin 2) * 2000 + 1 * (y 0).val; omega
    | ⟨1, _⟩ => show win0_0.index t (1 : Fin 2) * 81 + 1 * k.val = k.val; omega
  refine congrArg₂ soft (funext hk) (Fin.ext ?_)
  show (y 1).val = win0_1.index t (1 : Fin 2) * 80 + 1 * (y 1).val
  omega

/-- The blocks cover the array. -/
theorem cover (i : S20000x80.Idx) : ∃ t : Fin cfg0.N, (cfg0.win 1).flush t = true ∧ i ∈ ((cfg0.win 1).blk t).view.set := by
  have hi0 : (i 0).val < 20000 := (i 0).isLt
  have hi1 : (i 1).val < 80 := (i 1).isLt
  have hN : (i 0).val / 2000 < cfg0.N := by show _ < 10; omega
  obtain ⟨-, -, e2, e3, e4⟩ := idx_facts ⟨(i 0).val / 2000, hN⟩
  refine ⟨⟨(i 0).val / 2000, hN⟩, e4, ?_⟩
  refine Finset.mem_map.mpr ⟨(fun a => match a with | ⟨0, _⟩ => ⟨(i 0).val % 2000, Nat.mod_lt _ (by decide)⟩ | ⟨1, _⟩ => ⟨(i 1).val, hi1⟩ : S2000x80.Idx), Finset.mem_univ _, ?_⟩
  refine funext fun a => Fin.ext ?_
  match a with
  | ⟨0, _⟩ =>
    show win0_1.index ⟨(i 0).val / 2000, hN⟩ (0 : Fin 2) * 2000 + 1 * ((i 0).val % 2000) = (i 0).val
    rw [e2]; show (i 0).val / 2000 * 2000 + 1 * ((i 0).val % 2000) = (i 0).val; omega
  | ⟨1, _⟩ =>
    show win0_1.index ⟨(i 0).val / 2000, hN⟩ (1 : Fin 2) * 80 + 1 * (i 1).val = (i 1).val
    omega

/-- After the run the output array is the softmax of the rows. -/
theorem final_eq (c : Dev nD) : (dats m 0 c).arrAt 1 cfg0.N = G (N := 20000) (m ((c : Thread nD τ).loc main_arg0)) :=
  (dats m 0 c).arrAt_eq_of_cover 1 _ (fun t _ => flushed_eq m c t) cover

end Block

section Reference
open Cert.ScoresReferenceIdeal Cert.ScoresReferenceIdeal.Gen Cert.ScoresReferenceIdeal.Read

/-- The reference's greatest entry of a row. -/
theorem refMax (x : (⟨S20000x81, .f32⟩ : BufTy).Contents (Elt Ideal)) (j : S20000.Idx) :
    (val_main_v2 x j : EReal) = top (fun k => x (atS (N := 20000) (j 0) k)) := by
  rw [val_main_v2_apply, val_main_v1_apply, val_main_cst_0_apply]
  have hv : (val_main_v0 x j : EReal) = top (fun k => x (atS (N := 20000) (j 0) k)) := by
    unfold val_main_v0 val_main_cst
    refine (congrFun (hostReduce_maximumf_eq_multiReduction (F := Ideal) (φ := .f32) (s := S20000x81) (t := S20000) x 0xFF800000#32 reducesTo_S20000x81_S20000_d1 h_S_ (by decide : S20000x81.Reduces [1] S20000) (.inl rfl) rfl) j).trans ?_
    refine (Ideal.multiReduction_maximumf_single (φ := .f32) (s := S20000x81) x _ _ _ _ j).trans ?_
    unfold top
    refine Finset.fold_congr fun k _ => ?_
    exact congrArg x (funext fun a => Fin.ext (by match a with | ⟨0, _⟩ => rfl | ⟨1, _⟩ => rfl))
  rw [hv]
  show max (FloatOps.ofBits (F := Ideal) .f32 0xFF800000#32 : EReal) _ = _
  rw [neg_inf]; exact max_eq_right bot_le

/-- The reference's probabilities are the softmax of the rows. -/
theorem ref_eq (x : (⟨S20000x81, .f32⟩ : BufTy).Contents (Elt Ideal)) : val_main_v11 x = G (N := 20000) x := by
  funext i
  rw [val_main_v11_apply, val_main_v10_apply, val_main_v9_apply, val_main_v8_apply, val_main_v7_apply]
  have he : ∀ z : S20000x81.Idx, (val_main_v6 x z : EReal) = Ideal.exp (x z - top (fun k => x (atS (N := 20000) (z 0) k))) := by
    intro z
    rw [val_main_v6_apply, val_main_v5_apply, val_main_v4_apply, val_main_v3_apply, refMax]
    rfl
  simp only [he]
  rw [val_main_cst_1_apply]
  have h0 : (FloatOps.ofBits (F := Ideal) .f32 0x00000000#32 : EReal) = 0 := Ideal.ofBits_zero_f32
  rw [h0, zero_add]
  have e1 : ∀ (z : S20000.Idx) (k : Fin 81), idx_main_v7 z k = atS (N := 20000) (z 0) k := fun z k =>
    funext fun a => Fin.ext (by match a with | ⟨0, _⟩ => rfl | ⟨1, _⟩ => rfl)
  have e2 : idx_main_v11 i = atS (N := 20000) (i 0) ⟨(i 1).val, Nat.lt_succ_of_lt (i 1).isLt⟩ :=
    funext fun a => Fin.ext (by match a with | ⟨0, _⟩ => rfl | ⟨1, _⟩ => rfl)
  simp only [e1, e2]
  rfl

end Reference
end Cert.Soft
end
-- ==== Proof.ScoresClaims.lean ====
/-  The claims about the softmax call by itself. -/
module

public import proofs.«01_k».proof.Defs
public import proofs.«01_k».proof.Proof.Soft
public import proofs.«01_k».proof.Proof.Gen.Scores
public import proofs.«01_k».proof.Proof.Gen.Scores.Frame
public import proofs.«01_k».proof.Proof.Gen.ScoresIdeal
public import proofs.«01_k».proof.Proof.Gen.ScoresReferenceIdeal
public import proofs.«01_k».proof.Proof.Gen.ScoresReferenceIdeal.Run

@[expose] public section

noncomputable section

namespace Cert.Proof.ScoresClaims

open Idealize.ShloMosaic Idealize.SL.Sem

/-- The softmax call runs at the machine's words, leaves its argument as it was and every counter at zero. -/
theorem frame_p : Cert.quiescent_Scores := fun m ρ _ => Cert.Scores.Gen.frame m ρ

/-- The softmax call runs at the extended reals, leaves its argument as it was and every counter at zero. -/
theorem frame_pi : Cert.quiescent_ScoresIdeal := fun m ρ _ => Cert.ScoresIdeal.Gen.frame m ρ

/-- The softmax reference runs at the extended reals, leaves its argument as it was and every counter at zero. -/
theorem frame_ri : Cert.quiescent_ScoresReferenceIdeal := fun m ρ _ =>
  (θ_run Cert.ScoresReferenceIdeal.defs _ _).mono (fun r h => ⟨fun c => (h c).2,
      Idealize.ShloMosaic.sem_eq_zero_of_no_sems (by decide) r.2⟩)
    (Cert.ScoresReferenceIdeal.Value.run (F := Ideal) m ρ)

/-- No operation was replaced. -/
theorem preserves : Cert.preserves_Scores_ScoresIdeal := trivial

/-- At the extended reals the softmax call and the softmax reference end with the same array: the softmax of every
    row of scores without its last column. -/
theorem algebraic : Cert.algebraic_ScoresIdeal_ScoresReferenceIdeal := by
  intro m ρ m' ρ' _ hagree
  refine ⟨fun c => Cert.Soft.G (N := 20000) (m ((c.tc : Thread Cert.ScoresIdeal.nD Cert.ScoresIdeal.τ).loc Cert.ScoresIdeal.main_arg0)), ?_, ?_⟩
  · refine (θ_run Cert.ScoresIdeal.defs _ _).mono (fun r h c => ⟨(h c).1.trans (Cert.Soft.final_eq m c), (h c).2⟩)
      (Cert.ScoresIdeal.Value.run_blocks (F := Ideal) m ρ)
  · refine (θ_run Cert.ScoresReferenceIdeal.defs _ _).mono (fun r h c => ⟨?_, (h c).2⟩)
      (Cert.ScoresReferenceIdeal.Value.run (F := Ideal) m' ρ')
    refine ((h c).1.trans (Cert.ScoresReferenceIdeal.Read.val_main_v11_eq _)).trans ((Cert.Soft.ref_eq _).trans ?_)
    exact congrArg (Cert.Soft.G (N := 20000)) (hagree c)

end Cert.Proof.ScoresClaims

end
-- ==== Proof.K1.lean ====
/- The suppression call of the kernel: what its loop returns, what its body leaves in the two result buffers, and the
   call's triple. The loop carries no memory; `runWhile` is the loop as a function of its fuel. -/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Claim
public import Idealize.ShloMosaic.Lib.Ring
public import Idealize.ShloMosaic.Lib.Tactic
public import Idealize.ShloMosaic.Lib.WordCmp

@[expose] public section

set_option maxRecDepth 16384

noncomputable section

namespace Cert.K1

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The loops' measures: a number of trips to go. -/
abbrev vN : Variants := Variants.nat

/-! ## The loop -/

/-- The loop's test after one more trip: has any entry changed? -/
def flag (s : FVec F S1024x1024 .f32) (v k : FVec F S1x1024 .f32) : BitVec 1 :=
  Scalar.cmpf .ogt (k1_pay6 s v k) (Scalar.ofBits .f32 0x00000000#32)

/-- The loop from the entries `k` and the test `b`, given `n` trips of fuel: the entries it returns, if the fuel is
    enough. -/
def runWhile (s : FVec F S1024x1024 .f32) (v : FVec F S1x1024 .f32) :
    ℕ → FVec F S1x1024 .f32 → BitVec 1 → Option (FVec F S1x1024 .f32)
  | 0, k, b => if b = 1#1 then none else some k
  | n + 1, k, b => if b = 1#1 then runWhile s v n (k1_pay5 s v k) (flag s v k) else some k

/-- The loop's specification: it returns the entries `r` (and some word). -/
def spec (r : FVec F S1x1024 .f32) : sWPT 𝕄 (FVec F S1x1024 .f32 × BitVec 1) := do
  let b ← sWPT.arbitrary
  pure (r, b)

/-- The loop's specification, unfolded. -/
theorem spec_apply (r : FVec F S1x1024 .f32) (K : FVec F S1x1024 .f32 × BitVec 1 → sProp 𝕄) :
    spec r K = iprop(∀ b : BitVec 1, K (r, b)) := rfl

/-- Where the fuel is enough, the loop's body meets that specification. -/
theorem spec_le (c : Dev nD) (E : Set ℕ) (s : FVec F S1024x1024 .f32) (v : FVec F S1x1024 .f32) :
    ∀ (n : ℕ) (k : FVec F S1x1024 .f32) (b : BitVec 1) (r : FVec F S1x1024 .f32), runWhile s v n k b = some r →
      ∀ K : FVec F S1x1024 .f32 × BitVec 1 → sProp 𝕄, spec r K
        ⊢ wp frame (wpE (defs₀ (F := F)) vN (c : Thread nD τ) (some n)) E (defs₀ (F := F) .tc 2 ⟨s, v, k, b⟩) K := by
  intro n
  induction n with
  | zero =>
    intro k b r h K
    rw [spec_apply]
    show _ ⊢ wp frame (wpE (defs₀ (F := F)) vN (c : Thread nD τ) (some 0)) E (cc1_while1 s v k b) K
    by_cases hb : b = 1#1
    · rw [runWhile, if_pos hb] at h; exact absurd h (by simp)
    · rw [runWhile, if_neg hb] at h
      obtain rfl : k = r := Option.some.inj h
      unfold cc1_while1
      simp only [hb, ↓reduceIte, Prog.pure_eq_ret]
      iintro Hk
      rw [wp_ret]; imodintro
      iapply Hk
  | succ n ih =>
    intro k b r h K
    rw [spec_apply]
    show _ ⊢ wp frame (wpE (defs₀ (F := F)) vN (c : Thread nD τ) (some (n + 1))) E (cc1_while1 s v k b) K
    by_cases hb : b = 1#1
    · rw [runWhile, if_pos hb] at h
      simp only [cc1_while1_eq_skeleton]; unfold cc1_while1_skel
      simp only [hb, ↓reduceIte, Prog.lift, Prog.bind_op, Prog.bind_ret, Prog.pure_eq_ret]
      iintro Hk
      iapply (wp_call_spec vN (c : Thread nD τ) (some (n + 1)) E (spec r) n
        (fun u hu => by cases hu; exact Nat.lt_succ_self n) (ih _ _ r h))
      rw [spec_apply]
      iintro %b'
      rw [wp_ret]; imodintro
      iapply Hk
    · rw [runWhile, if_neg hb] at h
      obtain rfl : k = r := Option.some.inj h
      unfold cc1_while1
      simp only [hb, ↓reduceIte, Prog.pure_eq_ret]
      iintro Hk
      rw [wp_ret]; imodintro
      iapply Hk

/-! ## What the body computes -/

abbrev rR0 : Rect S4x1024 := Rect.unit (s := S4x1024) ![0, 0] S1x1024.size inb_S4x1024_S1x1024_0_0
abbrev rR1 : Rect S4x1024 := Rect.unit (s := S4x1024) ![1, 0] S1x1024.size inb_S4x1024_S1x1024_1_0
abbrev rR2 : Rect S4x1024 := Rect.unit (s := S4x1024) ![2, 0] S1x1024.size inb_S4x1024_S1x1024_2_0
abbrev rR3 : Rect S4x1024 := Rect.unit (s := S4x1024) ![3, 0] S1x1024.size inb_S4x1024_S1x1024_3_0
abbrev rC0 : Rect S1024x4 := Rect.unit (s := S1024x4) ![0, 0] S1024x1.size inb_S1024x4_S1024x1_0_0
abbrev rC1 : Rect S1024x4 := Rect.unit (s := S1024x4) ![0, 1] S1024x1.size inb_S1024x4_S1024x1_0_1
abbrev rC2 : Rect S1024x4 := Rect.unit (s := S1024x4) ![0, 2] S1024x1.size inb_S1024x4_S1024x1_0_2
abbrev rC3 : Rect S1024x4 := Rect.unit (s := S1024x4) ![0, 3] S1024x1.size inb_S1024x4_S1024x1_0_3
abbrev rM0 : Rect S2x1024 := Rect.unit (s := S2x1024) ![0, 0] S1x1024.size inb_S2x1024_S1x1024_0_0
abbrev rM1 : Rect S2x1024 := Rect.unit (s := S2x1024) ![1, 0] S1x1024.size inb_S2x1024_S1x1024_1_0
abbrev rN1 : Rect S1024x2 := Rect.unit (s := S1024x2) ![0, 1] S1024x1.size inb_S1024x2_S1024x1_0_1
abbrev rF : Rect S1x1024 := Rect.unit (s := S1x1024) ![0, 0] S1x1024.size inb_S1x1024_S1x1024_0_0

/-- The boxes' left edges, along a row. -/
def bx1 (x0 x2 : Vec F S4x1024 .f32) : FVec F S1x1024 .f32 :=
  k1_pay21 (k1_pay9 (View.ld x0 rR0) (View.ld x0 rR2)) (k1_pay11 (View.ld x0 rR0) (View.ld x0 rR2))
    (k1_pay13 (View.ld x2 rR0)) (k1_pay15 (View.ld x2 rR2))
/-- The boxes' upper edges, along a row. -/
def by1 (x0 x2 : Vec F S4x1024 .f32) : FVec F S1x1024 .f32 :=
  k1_pay22 (k1_pay10 (View.ld x0 rR1) (View.ld x0 rR3)) (k1_pay12 (View.ld x0 rR1) (View.ld x0 rR3))
    (k1_pay14 (View.ld x2 rR1)) (k1_pay16 (View.ld x2 rR3))
/-- The boxes' right edges, along a row. -/
def bx2 (x0 x2 : Vec F S4x1024 .f32) : FVec F S1x1024 .f32 :=
  k1_pay23 (k1_pay9 (View.ld x0 rR0) (View.ld x0 rR2)) (k1_pay11 (View.ld x0 rR0) (View.ld x0 rR2))
    (k1_pay13 (View.ld x2 rR0)) (k1_pay15 (View.ld x2 rR2))
/-- The boxes' lower edges, along a row. -/
def by2 (x0 x2 : Vec F S4x1024 .f32) : FVec F S1x1024 .f32 :=
  k1_pay24 (k1_pay10 (View.ld x0 rR1) (View.ld x0 rR3)) (k1_pay12 (View.ld x0 rR1) (View.ld x0 rR3))
    (k1_pay14 (View.ld x2 rR1)) (k1_pay16 (View.ld x2 rR3))

/-- The scores, along a row. -/
def sc (x4 : Vec F S2x1024 .f32) : FVec F S1x1024 .f32 := k1_pay25 (View.ld x4 rM0)

/-- Which box overlaps which later one by more than one half. -/
def supB (x0 : Vec F S4x1024 .f32) (x1 : Vec F S1024x4 .f32) (x2 : Vec F S4x1024 .f32) (x3 : Vec F S1024x4 .f32)
    (x4 : Vec F S2x1024 .f32) (x5 : Vec F S1024x2 .f32) : IVec S1024x1024 1 :=
  k1_pay48 (k1_pay27 (bx1 x0 x2) (View.ld x4 rM1)) (k1_pay28 (by1 x0 x2) (View.ld x4 rM1))
    (k1_pay29 (bx2 x0 x2) (View.ld x4 rM1)) (k1_pay30 (by2 x0 x2) (View.ld x4 rM1))
    (k1_pay31 (bx1 x0 x2) (by1 x0 x2) (bx2 x0 x2) (by2 x0 x2) (View.ld x4 rM1))
    (k1_pay42 (k1_pay33 (View.ld x1 rC1)) (k1_pay35 (View.ld x3 rC1)) (k1_pay39 (View.ld x1 rC1) (View.ld x1 rC3)))
    (k1_pay44 (k1_pay37 (View.ld x3 rC3)) (k1_pay39 (View.ld x1 rC1) (View.ld x1 rC3)))
    (k1_pay45 (k1_pay34 (View.ld x3 rC0)) (k1_pay36 (View.ld x3 rC2)) (k1_pay38 (View.ld x1 rC0) (View.ld x1 rC2)) (k1_pay40 (View.ld x1 rC0) (View.ld x1 rC2)))
    (k1_pay46 (k1_pay33 (View.ld x1 rC1)) (k1_pay35 (View.ld x3 rC1)) (k1_pay37 (View.ld x3 rC3)) (k1_pay39 (View.ld x1 rC1) (View.ld x1 rC3)))
    (k1_pay47 (k1_pay34 (View.ld x3 rC0)) (k1_pay36 (View.ld x3 rC2)) (k1_pay38 (View.ld x1 rC0) (View.ld x1 rC2)) (k1_pay40 (View.ld x1 rC0) (View.ld x1 rC2)))
    (View.ld x5 rN1)

/-- The four boxes' edges as the body stores them. -/
def outB (x0 x2 : Vec F S4x1024 .f32) : Vec F S4x1024 .f32 :=
  View.canon [⟨rR3, by2 x0 x2⟩, ⟨rR2, bx2 x0 x2⟩, ⟨rR1, by1 x0 x2⟩, ⟨rR0, bx1 x0 x2⟩]

/-- The scores as the body stores them, from the entries `k` the loop returned. -/
def outF (x4 : Vec F S2x1024 .f32) (k : FVec F S1x1024 .f32) : Vec F S1x1024 .f32 :=
  View.canon [⟨rF, k1_pay4 (sc x4) k⟩]

/-- The four rows stored fill the array of boxes. -/
theorem coverB (p0 p1 p2 p3 : Vec F S1x1024 .f32) (y : S4x1024.Idx) :
    ∃ pc ∈ ([⟨rR3, p3⟩, ⟨rR2, p2⟩, ⟨rR1, p1⟩, ⟨rR0, p0⟩] : List (View.Piece (Elt F) S4x1024 .f32)), y ∈ pc.1.set :=
  View.cover_of_tiled [⟨rR3, p3⟩, ⟨rR2, p2⟩, ⟨rR1, p1⟩, ⟨rR0, p0⟩] S1x1024.size (by rfl) y

/-- The one row stored fills the array of scores. -/
theorem coverF (p0 : Vec F S1x1024 .f32) (y : S1x1024.Idx) :
    ∃ pc ∈ ([⟨rF, p0⟩] : List (View.Piece (Elt F) S1x1024 .f32)), y ∈ pc.1.set :=
  View.cover_of_tiled [⟨rF, p0⟩] S1x1024.size (by rfl) y

set_option maxHeartbeats 2000000 in
/-- The suppression call's body: with the six inputs at `x0` … `x5`, and the loop returning `k`, it leaves the inputs as
    they were and the two results at `outF` and `outB`. -/
theorem sound_kernel (c : Dev nD) (E : Set ℕ) (arg0 : Memref sig .tc .vmem S4x1024 .f32) (harg0 : arg0.IsWhole) (arg1 : Memref sig .tc .vmem S1024x4 .f32) (harg1 : arg1.IsWhole) (arg2 : Memref sig .tc .vmem S4x1024 .f32) (harg2 : arg2.IsWhole) (arg3 : Memref sig .tc .vmem S1024x4 .f32) (harg3 : arg3.IsWhole) (arg4 : Memref sig .tc .vmem S2x1024 .f32) (harg4 : arg4.IsWhole) (arg5 : Memref sig .tc .vmem S1024x2 .f32) (harg5 : arg5.IsWhole) (arg6 : Memref sig .tc .vmem S1x1024 .f32) (harg6 : arg6.IsWhole) (arg7 : Memref sig .tc .vmem S4x1024 .f32) (harg7 : arg7.IsWhole)
    (x0 : Vec F S4x1024 .f32) (x1 : Vec F S1024x4 .f32) (x2 : Vec F S4x1024 .f32) (x3 : Vec F S1024x4 .f32)
    (x4 : Vec F S2x1024 .f32) (x5 : Vec F S1024x2 .f32) (n : ℕ) (k : FVec F S1x1024 .f32)
    (hk : runWhile (k1_pay1 (supB x0 x1 x2 x3 x4 x5)) (k1_pay3 (sc x4)) n (k1_pay3 (sc x4)) 1#1 = some k)
    (K : PUnit → sProp 𝕄) :
    iprop(owns (c : Thread nD τ) arg0 fullShare x0 ∗ owns (c : Thread nD τ) arg1 fullShare x1 ∗ owns (c : Thread nD τ) arg2 fullShare x2
        ∗ owns (c : Thread nD τ) arg3 fullShare x3 ∗ owns (c : Thread nD τ) arg4 fullShare x4 ∗ owns (c : Thread nD τ) arg5 fullShare x5
        ∗ (∃ d, owns (c : Thread nD τ) arg6 fullShare d) ∗ (∃ d, owns (c : Thread nD τ) arg7 fullShare d)
        ∗ (iprop(owns (c : Thread nD τ) arg0 fullShare x0 ∗ owns (c : Thread nD τ) arg1 fullShare x1 ∗ owns (c : Thread nD τ) arg2 fullShare x2
            ∗ owns (c : Thread nD τ) arg3 fullShare x3 ∗ owns (c : Thread nD τ) arg4 fullShare x4 ∗ owns (c : Thread nD τ) arg5 fullShare x5
            ∗ owns (c : Thread nD τ) arg6 fullShare (outF x4 k) ∗ owns (c : Thread nD τ) arg7 fullShare (outB x0 x2)) -∗ K ⟨⟩))
      ⊢ wp frame (wpE (defs₀ (F := F)) vN c none) E
          (cc1__nms_kernel arg0 harg0 arg1 harg1 arg2 harg2 arg3 harg3 arg4 harg4 arg5 harg5 arg6 harg6 arg7 harg7) K := by
  simp only [cc1__nms_kernel_eq_skeleton]; unfold cc1__nms_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, Hk⟩
  subst hf0 hf1 hf2 hf3 hf4 hf5
  sl_exec
  iapply (wp_call_spec vN (c : Thread nD τ) none E (spec k) n (fun u hu => nomatch hu)
    (spec_le c E _ _ n _ _ k hk))
  rw [spec_apply]
  iintro %b
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists _; isplitr
    swap; · iexact H6
    ipureintro
    exact View.read_writes_eq_canon _ _ _ (coverF _)
  iexists _; isplitr
  swap; · iexact H7
  ipureintro
  exact View.read_writes_eq_canon _ _ _ (coverB _ _ _ _)

end Cert.K1

end
-- ==== Proof.KDat.lean ====
/- Both calls' proof data over the contents each is entered with, and the bodies' obligations. -/
module

public import proofs.«01_k».proof.Proof.K1

@[expose] public section

set_option maxRecDepth 16384

noncomputable section

namespace Cert.KRun

open Cert.KernelIdeal Cert.KernelIdeal.Gen Cert.K1
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg RegionSeg)

variable {F : FTy → Type} [FloatOps F]

local notation "𝕄" => MT nD τ sig Unit (Elt F) ℕ (UR sig nD τ) ℕ

variable (V : Dev nD → Valuation τ sig (Elt F))

/-! ## The scores' call -/

/-- Window `w`'s block at point `t`, read off its array as the call finds it. -/
def iblk0 (c : Dev nD) (w : Fin (cfg0 (F := F)).W) (t : Fin (cfg0 (F := F)).N) : (((cfg0 (F := F)).win w).xblock ((cfg0 (F := F)).grid.coords t)).Idx → Elt F ((cfg0 (F := F)).win w).elt :=
  (((cfg0 (F := F)).win w).blk t).view.read (Elt F) (V c (Proc.devRef .tc (Pipeline.arrRef spec0 w)))

/-- A body that leaves its operand alone finds the operand's block. -/
theorem before0_of {c : Dev nD} (dat : Dat τ (Elt F) Unit ℕ (UR sig nD τ) ℕ (cfg0 (F := F)) c)
    (hA : dat.A 0 = V c (Proc.devRef .tc (Pipeline.arrRef spec0 0)))
    (hafter : ∀ t, dat.after 0 t = iblk0 V c 0 t) (t : Fin (cfg0 (F := F)).N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

abbrev r0_0 : Rect S2000x81 := Rect.unit (s := S2000x81) ![0, 0] S2000x81.size inb_S2000x81_S2000x81_0_0
abbrev r0_1 : Rect S2000x80 := Rect.unit (s := S2000x80) ![0, 0] S2000x80.size inb_S2000x80_S2000x80_0_0

/-- What the scores' body stores, of the block it reads. -/
def out0 (x0 : Vec F S2000x81 .f32) : Vec F S2000x80 .f32 :=
  View.canon [⟨r0_1, k0_pay1 (View.ld x0 r0_0)⟩]

/-- What the scores' body stores fills its block. -/
theorem cover0 (p0 : Vec F S2000x80 .f32) (y : S2000x80.Idx) :
    ∃ pc ∈ ([⟨r0_1, p0⟩] : List (View.Piece (Elt F) S2000x80 .f32)), y ∈ pc.1.set :=
  View.cover_of_tiled [⟨r0_1, p0⟩] S2000x80.size (by rfl) y

set_option maxHeartbeats 1000000 in
/-- The scores' body: with its input at `x0` it leaves the input as it was and the result at `out0 x0`. -/
theorem sound_kernel0 (c : Dev nD) (E : Set ℕ) (i : grid0.Coords) (arg1 : Memref sig .tc .vmem S2000x81 .f32) (harg1 : arg1.IsWhole) (arg2 : Memref sig .tc .vmem S2000x80 .f32) (harg2 : arg2.IsWhole)
    (x0 : Vec F S2000x81 .f32) (K : PUnit → sProp 𝕄) :
    iprop(owns (c : Thread nD τ) arg1 fullShare x0 ∗ (∃ d, owns (c : Thread nD τ) arg2 fullShare d)
        ∗ (iprop(owns (c : Thread nD τ) arg1 fullShare x0 ∗ owns (c : Thread nD τ) arg2 fullShare (out0 x0)) -∗ K ⟨⟩))
      ⊢ wp frame (wpE (defs₀ (F := F)) vN c none) E (cc0__probs_kernel i arg1 harg1 arg2 harg2) K := by
  simp only [cc0__probs_kernel_eq_skeleton]; unfold cc0__probs_kernel_skel
  unfold owns
  iintro ⟨⟨%f0, %hf0, H0⟩, ⟨%d1, %f1, -, H1⟩, Hk⟩
  subst hf0
  sl_exec
  sl_step
  iapply Hk
  isplitl [H0]
  · iexists f0; isplitr; · ipureintro; rfl
    iexact H0
  iexists _; isplitr
  swap; · iexact H1
  ipureintro
  exact View.read_writes_eq_canon _ _ _ (cover0 _)

/-- The scores' proof data. -/
def dat0 (c : Dev nD) : Dat τ (Elt F) Unit ℕ (UR sig nD τ) ℕ (cfg0 (F := F)) c where
  A w := V c (Proc.devRef .tc (Pipeline.arrRef spec0 w))
  after w t := match w with
    | ⟨0, _⟩ => iblk0 V c 0 t
    | ⟨1, _⟩ => out0 (iblk0 V c 0 t)
  Φ _ := Pipeline.ΦA spec0 c
  q _ := fullShare
  owed _ := 0

/-- The scores' call's arrays at its start. -/
theorem A_eq0 (c : Dev nD) (w : Fin (cfg0 (F := F)).W) : (dat0 V c).A w = V c (Proc.devRef .tc (Pipeline.arrRef spec0 w)) := by
  dsimp only [dat0]
/-- The scores' body leaves its operand alone. -/
theorem after0_0 (c : Dev nD) (t : Fin (cfg0 (F := F)).N) : (dat0 V c).after 0 t = iblk0 V c 0 t := by dsimp only [dat0]; rfl
/-- The scores' body leaves its result. -/
theorem after0_1 (c : Dev nD) (t : Fin (cfg0 (F := F)).N) : (dat0 V c).after 1 t = out0 (iblk0 V c 0 t) := by dsimp only [dat0]; rfl
/-- The scores' body finds its operand's block. -/
theorem before0 (c : Dev nD) (t : Fin (cfg0 (F := F)).N) (d) : (dat0 V c).before 0 t d = iblk0 V c 0 t :=
  before0_of V (dat0 V c) (A_eq0 V c 0) (after0_0 V c) t d

/-- What the scores' body has before it runs. -/
def bodyPre0 (c : Dev nD) (t : Fin (cfg0 (F := F)).N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d)))
/-- What the scores' body leaves. -/
def bodyPost0 (c : Dev nD) (t : Fin (cfg0 (F := F)).N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t))

/-- The scores' body, from what it has, leaves what it should. -/
theorem sound_body0 (c : Dev nD) (t : Fin (cfg0 (F := F)).N) :
    bodyPre0 V c t ⊢ wp frame (wpE (defs₀ (F := F)) vN c none) Set.univ (bodyAt0 t) (fun _ => bodyPost0 V c t) := by
  unfold bodyPre0 bodyPost0 bodyAt0
  simp only [before0]
  rw [show (dat0 V c).Φ t.succ = (dat0 V c).Φ t.castSucc from rfl,
    show (dat0 V c).owesAt () t.succ = (dat0 V c).owesAt () t.castSucc from rfl,
    after0_0, after0_1]
  iintro ⟨HΦ, Ho, ⟨%d0, H0⟩, ⟨%d1, H1⟩⟩
  iapply (sound_kernel0 c Set.univ (grid0.coords t) _ _ _ _ (iblk0 V c 0 t) _)
  isplitl [H0]; · iexact H0
  isplitl [H1]; · iexists _; iexact H1
  iintro ⟨H0, H1⟩
  isplitl [HΦ]; · iexact HΦ
  isplitl [Ho]; · iexact Ho
  isplitl [H0]; · iexact H0
  iexact H1

/-- The body the scores' call runs. -/
theorem defs₀_row0 (t : Fin (cfg0 (F := F)).N) :
    defs₀ (F := F) .tc (cfg0 (F := F)).body ((cfg0 (F := F)).bodyArgs t ((cfg0 (F := F)).slots t)) = bodyAt0 t := by
  unfold defs₀; rw [Defs.onTc_tc]

/-- The scores' body meets what the call asks of it. -/
theorem body_obligation0 (c : Dev nD) : BodyObligation (dat0 V c) (defs₀ (F := F)) vN () Set.univ := fun t => by
  rw [bigSep_W0, bigSep_W0, defs₀_row0]
  exact triple_restated (sound_body0 V c t) rfl .rfl fun _ => .rfl

/-! ## The suppression call -/

/-- Window `w`'s block, read off its array as the call finds it. -/
def iblk1 (c : Dev nD) (w : Fin (cfg1 (F := F)).W) (t : Fin (cfg1 (F := F)).N) : (((cfg1 (F := F)).win w).xblock ((cfg1 (F := F)).grid.coords t)).Idx → Elt F ((cfg1 (F := F)).win w).elt :=
  (((cfg1 (F := F)).win w).blk t).view.read (Elt F) (V c (Proc.devRef .tc (Pipeline.arrRef spec1 w)))

/-- The loop, run from the suppression call's inputs with `n` trips of fuel, returns `k`. -/
def Stops (c : Dev nD) (n : ℕ) (k : FVec F S1x1024 .f32) : Prop :=
  ∀ t : Fin (cfg1 (F := F)).N, runWhile (k1_pay1 (supB (iblk1 V c 0 t) (iblk1 V c 1 t) (iblk1 V c 2 t) (iblk1 V c 3 t) (iblk1 V c 4 t) (iblk1 V c 5 t)))
    (k1_pay3 (sc (iblk1 V c 4 t))) n (k1_pay3 (sc (iblk1 V c 4 t))) 1#1 = some k

/-- The suppression call's proof data, the loop's result being `kk c`. -/
def dat1 (kk : Dev nD → FVec F S1x1024 .f32) (c : Dev nD) : Dat τ (Elt F) Unit ℕ (UR sig nD τ) ℕ (cfg1 (F := F)) c where
  A w := V c (Proc.devRef .tc (Pipeline.arrRef spec1 w))
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => outF (iblk1 V c 4 t) (kk c)
    | ⟨7, _⟩ => outB (iblk1 V c 0 t) (iblk1 V c 2 t)
  Φ _ := Pipeline.ΦA spec1 c
  q _ := fullShare
  owed _ := 0

variable (kk : Dev nD → FVec F S1x1024 .f32)

/-- The suppression call's arrays at its start. -/
theorem A_eq1 (c : Dev nD) (w : Fin (cfg1 (F := F)).W) : (dat1 V kk c).A w = V c (Proc.devRef .tc (Pipeline.arrRef spec1 w)) := by
  dsimp only [dat1]
/-- The suppression call's body leaves operand 0 alone. -/
theorem after1_0 (c : Dev nD) (t : Fin (cfg1 (F := F)).N) : (dat1 V kk c).after 0 t = iblk1 V c 0 t := by dsimp only [dat1]; rfl
/-- The suppression call's body finds operand 0's block. -/
theorem before1_0 (c : Dev nD) (t : Fin (cfg1 (F := F)).N) (d) : (dat1 V kk c).before 0 t d = iblk1 V c 0 t :=
  ((dat1 V kk c).before_in_eq_fetched 0 rfl (fun _ => rfl) (fun _ _ _ => rfl) (fun t => by rw [after1_0]; unfold Dat.blockOf iblk1; rw [A_eq1]; try rfl) t d).trans
    (by unfold Dat.fetched Dat.blockOf iblk1; rw [A_eq1]; try rfl)
/-- The suppression call's body leaves operand 1 alone. -/
theorem after1_1 (c : Dev nD) (t : Fin (cfg1 (F := F)).N) : (dat1 V kk c).after 1 t = iblk1 V c 1 t := by dsimp only [dat1]; rfl
/-- The suppression call's body finds operand 1's block. -/
theorem before1_1 (c : Dev nD) (t : Fin (cfg1 (F := F)).N) (d) : (dat1 V kk c).before 1 t d = iblk1 V c 1 t :=
  ((dat1 V kk c).before_in_eq_fetched 1 rfl (fun _ => rfl) (fun _ _ _ => rfl) (fun t => by rw [after1_1]; unfold Dat.blockOf iblk1; rw [A_eq1]; try rfl) t d).trans
    (by unfold Dat.fetched Dat.blockOf iblk1; rw [A_eq1]; try rfl)
/-- The suppression call's body leaves operand 2 alone. -/
theorem after1_2 (c : Dev nD) (t : Fin (cfg1 (F := F)).N) : (dat1 V kk c).after 2 t = iblk1 V c 2 t := by dsimp only [dat1]; rfl
/-- The suppression call's body finds operand 2's block. -/
theorem before1_2 (c : Dev nD) (t : Fin (cfg1 (F := F)).N) (d) : (dat1 V kk c).before 2 t d = iblk1 V c 2 t :=
  ((dat1 V kk c).before_in_eq_fetched 2 rfl (fun _ => rfl) (fun _ _ _ => rfl) (fun t => by rw [after1_2]; unfold Dat.blockOf iblk1; rw [A_eq1]; try rfl) t d).trans
    (by unfold Dat.fetched Dat.blockOf iblk1; rw [A_eq1]; try rfl)
/-- The suppression call's body leaves operand 3 alone. -/
theorem after1_3 (c : Dev nD) (t : Fin (cfg1 (F := F)).N) : (dat1 V kk c).after 3 t = iblk1 V c 3 t := by dsimp only [dat1]; rfl
/-- The suppression call's body finds operand 3's block. -/
theorem before1_3 (c : Dev nD) (t : Fin (cfg1 (F := F)).N) (d) : (dat1 V kk c).before 3 t d = iblk1 V c 3 t :=
  ((dat1 V kk c).before_in_eq_fetched 3 rfl (fun _ => rfl) (fun _ _ _ => rfl) (fun t => by rw [after1_3]; unfold Dat.blockOf iblk1; rw [A_eq1]; try rfl) t d).trans
    (by unfold Dat.fetched Dat.blockOf iblk1; rw [A_eq1]; try rfl)
/-- The suppression call's body leaves operand 4 alone. -/
theorem after1_4 (c : Dev nD) (t : Fin (cfg1 (F := F)).N) : (dat1 V kk c).after 4 t = iblk1 V c 4 t := by dsimp only [dat1]; rfl
/-- The suppression call's body finds operand 4's block. -/
theorem before1_4 (c : Dev nD) (t : Fin (cfg1 (F := F)).N) (d) : (dat1 V kk c).before 4 t d = iblk1 V c 4 t :=
  ((dat1 V kk c).before_in_eq_fetched 4 rfl (fun _ => rfl) (fun _ _ _ => rfl) (fun t => by rw [after1_4]; unfold Dat.blockOf iblk1; rw [A_eq1]; try rfl) t d).trans
    (by unfold Dat.fetched Dat.blockOf iblk1; rw [A_eq1]; try rfl)
/-- The suppression call's body leaves operand 5 alone. -/
theorem after1_5 (c : Dev nD) (t : Fin (cfg1 (F := F)).N) : (dat1 V kk c).after 5 t = iblk1 V c 5 t := by dsimp only [dat1]; rfl
/-- The suppression call's body finds operand 5's block. -/
theorem before1_5 (c : Dev nD) (t : Fin (cfg1 (F := F)).N) (d) : (dat1 V kk c).before 5 t d = iblk1 V c 5 t :=
  ((dat1 V kk c).before_in_eq_fetched 5 rfl (fun _ => rfl) (fun _ _ _ => rfl) (fun t => by rw [after1_5]; unfold Dat.blockOf iblk1; rw [A_eq1]; try rfl) t d).trans
    (by unfold Dat.fetched Dat.blockOf iblk1; rw [A_eq1]; try rfl)
/-- Operand 0's array is unchanged by the suppression call. -/
theorem arrIn1_0 (c : Dev nD) : (dat1 V kk c).arrAt 0 (cfg1 (F := F)).N = V c (Proc.devRef .tc (Pipeline.arrRef spec1 0)) :=
  ((dat1 V kk c).arrAt_in 0 rfl _).trans (A_eq1 V kk c 0)
/-- Operand 1's array is unchanged by the suppression call. -/
theorem arrIn1_1 (c : Dev nD) : (dat1 V kk c).arrAt 1 (cfg1 (F := F)).N = V c (Proc.devRef .tc (Pipeline.arrRef spec1 1)) :=
  ((dat1 V kk c).arrAt_in 1 rfl _).trans (A_eq1 V kk c 1)
/-- Operand 2's array is unchanged by the suppression call. -/
theorem arrIn1_2 (c : Dev nD) : (dat1 V kk c).arrAt 2 (cfg1 (F := F)).N = V c (Proc.devRef .tc (Pipeline.arrRef spec1 2)) :=
  ((dat1 V kk c).arrAt_in 2 rfl _).trans (A_eq1 V kk c 2)
/-- Operand 3's array is unchanged by the suppression call. -/
theorem arrIn1_3 (c : Dev nD) : (dat1 V kk c).arrAt 3 (cfg1 (F := F)).N = V c (Proc.devRef .tc (Pipeline.arrRef spec1 3)) :=
  ((dat1 V kk c).arrAt_in 3 rfl _).trans (A_eq1 V kk c 3)
/-- Operand 4's array is unchanged by the suppression call. -/
theorem arrIn1_4 (c : Dev nD) : (dat1 V kk c).arrAt 4 (cfg1 (F := F)).N = V c (Proc.devRef .tc (Pipeline.arrRef spec1 4)) :=
  ((dat1 V kk c).arrAt_in 4 rfl _).trans (A_eq1 V kk c 4)
/-- Operand 5's array is unchanged by the suppression call. -/
theorem arrIn1_5 (c : Dev nD) : (dat1 V kk c).arrAt 5 (cfg1 (F := F)).N = V c (Proc.devRef .tc (Pipeline.arrRef spec1 5)) :=
  ((dat1 V kk c).arrAt_in 5 rfl _).trans (A_eq1 V kk c 5)
/-- The suppression call's body leaves the scores. -/
theorem after1_6 (c : Dev nD) (t : Fin (cfg1 (F := F)).N) : (dat1 V kk c).after 6 t = outF (iblk1 V c 4 t) (kk c) := by dsimp only [dat1]; rfl
/-- The suppression call's body leaves the boxes. -/
theorem after1_7 (c : Dev nD) (t : Fin (cfg1 (F := F)).N) : (dat1 V kk c).after 7 t = outB (iblk1 V c 0 t) (iblk1 V c 2 t) := by dsimp only [dat1]; rfl

/-- What the suppression call's body has before it runs. -/
def bodyPre1 (c : Dev nD) (t : Fin (cfg1 (F := F)).N) : sProp 𝕄 :=
  iprop((dat1 V kk c).Φ t.castSucc ∗ (dat1 V kk c).owesAt () t.castSucc
    ∗ (∃ d, owns (c : Thread nD τ) (st1_0 t) fullShare ((dat1 V kk c).before 0 t d))
    ∗ (∃ d, owns (c : Thread nD τ) (st1_1 t) fullShare ((dat1 V kk c).before 1 t d))
    ∗ (∃ d, owns (c : Thread nD τ) (st1_2 t) fullShare ((dat1 V kk c).before 2 t d))
    ∗ (∃ d, owns (c : Thread nD τ) (st1_3 t) fullShare ((dat1 V kk c).before 3 t d))
    ∗ (∃ d, owns (c : Thread nD τ) (st1_4 t) fullShare ((dat1 V kk c).before 4 t d))
    ∗ (∃ d, owns (c : Thread nD τ) (st1_5 t) fullShare ((dat1 V kk c).before 5 t d))
    ∗ (∃ d, owns (c : Thread nD τ) (st1_6 t) fullShare ((dat1 V kk c).before 6 t d))
    ∗ (∃ d, owns (c : Thread nD τ) (st1_7 t) fullShare ((dat1 V kk c).before 7 t d)))
/-- What the suppression call's body leaves. -/
def bodyPost1 (c : Dev nD) (t : Fin (cfg1 (F := F)).N) : sProp 𝕄 :=
  iprop((dat1 V kk c).Φ t.succ ∗ (dat1 V kk c).owesAt () t.succ
    ∗ owns (c : Thread nD τ) (st1_0 t) fullShare ((dat1 V kk c).after 0 t)
    ∗ owns (c : Thread nD τ) (st1_1 t) fullShare ((dat1 V kk c).after 1 t)
    ∗ owns (c : Thread nD τ) (st1_2 t) fullShare ((dat1 V kk c).after 2 t)
    ∗ owns (c : Thread nD τ) (st1_3 t) fullShare ((dat1 V kk c).after 3 t)
    ∗ owns (c : Thread nD τ) (st1_4 t) fullShare ((dat1 V kk c).after 4 t)
    ∗ owns (c : Thread nD τ) (st1_5 t) fullShare ((dat1 V kk c).after 5 t)
    ∗ owns (c : Thread nD τ) (st1_6 t) fullShare ((dat1 V kk c).after 6 t)
    ∗ owns (c : Thread nD τ) (st1_7 t) fullShare ((dat1 V kk c).after 7 t))

/-- The suppression call's body, from what it has, leaves what it should, where its loop stops. -/
theorem sound_body1 (c : Dev nD) (n : ℕ) (hk : Stops V c n (kk c)) (t : Fin (cfg1 (F := F)).N) :
    bodyPre1 V kk c t ⊢ wp frame (wpE (defs₀ (F := F)) vN c none) Set.univ (bodyAt1 t) (fun _ => bodyPost1 V kk c t) := by
  unfold bodyPre1 bodyPost1 bodyAt1
  simp only [before1_0, before1_1, before1_2, before1_3, before1_4, before1_5]
  rw [show (dat1 V kk c).Φ t.succ = (dat1 V kk c).Φ t.castSucc from rfl,
    show (dat1 V kk c).owesAt () t.succ = (dat1 V kk c).owesAt () t.castSucc from rfl,
    after1_0, after1_1, after1_2, after1_3, after1_4, after1_5, after1_6, after1_7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel c Set.univ _ _ _ _ _ _ _ _ _ _ _ _ _ _ _ _ (iblk1 V c 0 t) (iblk1 V c 1 t) (iblk1 V c 2 t) (iblk1 V c 3 t) (iblk1 V c 4 t) (iblk1 V c 5 t) n (kk c) (hk t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- The body the suppression call runs. -/
theorem defs₀_row1 (t : Fin (cfg1 (F := F)).N) :
    defs₀ (F := F) .tc (cfg1 (F := F)).body ((cfg1 (F := F)).bodyArgs t ((cfg1 (F := F)).slots t)) = bodyAt1 t := by
  unfold defs₀; rw [Defs.onTc_tc]

/-- The suppression call's body meets what the call asks of it, where its loop stops. -/
theorem body_obligation1 (c : Dev nD) (n : ℕ) (hk : Stops V c n (kk c)) :
    BodyObligation (dat1 V kk c) (defs₀ (F := F)) vN () Set.univ := fun t => by
  rw [bigSep_W1, bigSep_W1, defs₀_row1]
  exact triple_restated (sound_body1 V kk c n hk t) rfl .rfl fun _ => .rfl

end Cert.KRun

end
-- ==== Proof.KRun.lean ====
/- The kernel's run: the calls' records, and the launch, whose
   end states the result as the last host stretch leaves it. -/
module

public import proofs.«01_k».proof.Proof.KDat
public import proofs.«01_k».proof.Proof.Gen.KernelIdeal.Regions
public import Idealize.ShloMosaic.Lib.Pipeline.RegionArrays

@[expose] public section

set_option maxRecDepth 16384

noncomputable section

namespace Cert.KRun

open Cert.KernelIdeal Cert.KernelIdeal.Gen Cert.K1
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg RegionSeg)

variable {F : FTy → Type} [FloatOps F]

local notation "𝕄" => MT nD τ sig Unit (Elt F) ℕ (UR sig nD τ) ℕ

/-! ## The records -/

variable (kk : Dev nD → FVec F S1x1024 .f32)

abbrev arrs0 : Finset (DevRef τ sig) := Pipeline.arrRefs (τ := τ) spec0
abbrev arrs1 : Finset (DevRef τ sig) := Pipeline.arrRefs (τ := τ) spec1

/-- The scores' call's windows' arrays are among its arrays. -/
theorem arr0_mem (w : Fin 2) : (Proc.devRef .tc (Pipeline.arrRef spec0 w) : DevRef τ sig) ∈ arrs0 :=
  Finset.mem_map_of_mem _ (Finset.mem_image_of_mem _ (Finset.mem_univ w))
/-- The scores' call's arrays are among the buffers held. -/
theorem arr0_S : arrs0 ⊆ Pipeline.ucRefs τ sig := Pipeline.arrRefs_sub_ucRefs spec0 (by decide)
/-- The suppression call's windows' arrays are among its arrays. -/
theorem arr1_mem (w : Fin 8) : (Proc.devRef .tc (Pipeline.arrRef spec1 w) : DevRef τ sig) ∈ arrs1 :=
  Finset.mem_map_of_mem _ (Finset.mem_image_of_mem _ (Finset.mem_univ w))
/-- The suppression call's arrays are among the buffers held. -/
theorem arr1_S : arrs1 ⊆ Pipeline.ucRefs τ sig := Pipeline.arrRefs_sub_ucRefs spec1 (by decide)

section Launch

variable (m : (ℓ : Loc nD τ sig) → Buf (Elt F) ℓ) (outs : Outs (F := F))

/-- The scores after the scores' call. -/
theorem V1_at (c : Dev nD) : V1 m outs c (Proc.devRef .tc main_v0) = outs 1 main_v0 c := by
  simp only [V1, Function.update_self]
/-- The scores after the suppression call. -/
theorem V15_at0 (c : Dev nD) : V15 m outs c (Proc.devRef .tc main_v37_0) = outs 15 main_v37_0 c := by
  simp only [V15, Function.update_of_ne (StableHlo.devRef_ne_of_ne (by decide : (main_v37_0 : Ref sig .tc) ≠ main_v37_1)), Function.update_self]
/-- The boxes after the suppression call. -/
theorem V15_at1 (c : Dev nD) : V15 m outs c (Proc.devRef .tc main_v37_1) = outs 15 main_v37_1 c := by
  simp only [V15, Function.update_self]

/-- The scores' call changes none of the other buffers. -/
theorem rest0_eq (c : Dev nD) : ∀ b ∈ Pipeline.ucRefs τ sig \ arrs0, V1 m outs c b = V0 m c b := fun b hb => by
  have hn : b ∉ arrs0 := (Finset.mem_sdiff.mp hb).2
  have h1 : b ≠ Proc.devRef .tc main_v0 := by rintro rfl; exact hn (arr0_mem 1)
  simp only [V1, Function.update_of_ne h1]
/-- The suppression call changes none of the other buffers. -/
theorem rest1_eq (c : Dev nD) : ∀ b ∈ Pipeline.ucRefs τ sig \ arrs1, V15 m outs c b = V14 m outs c b := fun b hb => by
  have hn : b ∉ arrs1 := (Finset.mem_sdiff.mp hb).2
  have h1 : b ≠ Proc.devRef .tc main_v37_0 := by rintro rfl; exact hn (arr1_mem 6)
  have h2 : b ≠ Proc.devRef .tc main_v37_1 := by rintro rfl; exact hn (arr1_mem 7)
  simp only [V15, Function.update_of_ne h1, Function.update_of_ne h2]

/-- Both calls' proof data. -/
def pdats : (p : Fin 2) → (c : Dev nD) → Dat τ (Elt F) Unit ℕ (UR sig nD τ) ℕ ((cfgs (F := F)) p) c
  | ⟨0, _⟩ => fun c => dat0 (V0 m) c
  | ⟨1, _⟩ => fun c => dat1 (V14 m outs) kk c
  | ⟨_ + 2, h⟩ => absurd h (Nat.not_lt.2 (Nat.le_add_left _ _))

/-- The staging waits have a level on every TensorCore. -/
abbrev L : GSem nD τ sig → Finset Unit := fun g => if g.1.2 = .tc then {()} else ∅
abbrev lv : GSem nD τ sig → Unit → ℕ := fun _ _ => 0
abbrev D : Dev nD → CellTallies nD τ sig Unit := fun _ => 0

/-- The staging waits are cut at the one level. -/
theorem hcut (p : Fin 2) : Pipeline.LevelCut (pcfgs (F := F)) adm () L lv p D fun _ => 0 :=
  ⟨fun _ _ _ => Finset.mem_singleton_self _, fun _ _ _ => le_refl _, fun _ _ _ h => absurd h (Nat.lt_irrefl _)⟩

/-- What rides beside the buffers: the random-number register and that the core owes nothing. -/
abbrev Es (_ : Fin 3) (c : Dev nD) : sProp 𝕄 :=
  iprop((∃ r, prngReg c r) ∗ ∃ W, owes (c : Thread nD τ) (0 : CellTallies nD τ sig Unit) W)

set_option backward.isDefEq.respectTransparency.types false in
/-- The scores' call as a segment. -/
def R0 (h0 : ∀ c, outs 1 main_v0 c = (dat0 (V0 m) c).arrAt 1 (cfg0 (F := F)).N) :
    RegionSeg (pcfgs (F := F)) adm (pdats kk m outs) () defs₀ vN L lv 0 :=
  Pipeline.RegionSeg.ofHeld (pcfgs (F := F)) adm (pdats kk m outs) () defs₀ vN L lv 0 D
    (fun c => iprop(∃ r, prngReg c r)) (fun c => iprop(∃ r, prngReg c r))
    launch0.toP rfl
    (fun c => (body_obligation0 (V0 m) c).loose) (fun _ _ => rfl) (fun _ => rfl)
    (fun c => (dat0 (V0 m) c).share_full fun _ => rfl) (fun _ => .rfl) (fun _ => .rfl) (fun _ => 0) (hcut 0)
    (fun c => StableHlo.held (c : Thread nD τ) (Pipeline.ucRefs τ sig \ arrs0) (V0 m c))
    (V0 m) (V1 m outs) (fun _ _ => rfl)
    (fun c => fun
      | 0 => ((dat0 (V0 m) c).arrAt_in 0 rfl _).trans ((A_eq0 (V0 m) c 0).trans (V1_of m outs c (Pipeline.arrRef spec0 0) (by decide)).symm)
      | 1 => (h0 c).symm.trans (V1_at m outs c).symm
      | ⟨_ + 2, h⟩ => absurd h (Nat.not_lt.2 (Nat.le_add_left _ _)))

set_option maxHeartbeats 1000000 in
set_option backward.isDefEq.respectTransparency.types false in
/-- The suppression call as a segment. -/
def R1 (n : ℕ) (hk : ∀ c, Stops (V14 m outs) c n (kk c))
    (h6 : ∀ c, outs 15 main_v37_0 c = (dat1 (V14 m outs) kk c).arrAt 6 (cfg1 (F := F)).N)
    (h7 : ∀ c, outs 15 main_v37_1 c = (dat1 (V14 m outs) kk c).arrAt 7 (cfg1 (F := F)).N) :
    RegionSeg (pcfgs (F := F)) adm (pdats kk m outs) () defs₀ vN L lv 1 :=
  Pipeline.RegionSeg.ofHeld (pcfgs (F := F)) adm (pdats kk m outs) () defs₀ vN L lv 1 D
    (fun c => iprop(∃ r, prngReg c r)) (fun c => iprop(∃ r, prngReg c r))
    launch1.toP rfl
    (fun c => (body_obligation1 (V14 m outs) kk c n (hk c)).loose) (fun _ _ => rfl) (fun _ => rfl)
    (fun c => (dat1 (V14 m outs) kk c).share_full fun _ => rfl) (fun _ => .rfl) (fun _ => .rfl) (fun _ => 0) (hcut 1)
    (fun c => StableHlo.held (c : Thread nD τ) (Pipeline.ucRefs τ sig \ arrs1) (V14 m outs c))
    (V14 m outs) (V15 m outs) (fun _ _ => rfl)
    (fun c => fun
      | 0 => (arrIn1_0 (V14 m outs) kk c).trans (V15_of m outs c (Pipeline.arrRef spec1 0) (by decide)).symm
      | 1 => (arrIn1_1 (V14 m outs) kk c).trans (V15_of m outs c (Pipeline.arrRef spec1 1) (by decide)).symm
      | 2 => (arrIn1_2 (V14 m outs) kk c).trans (V15_of m outs c (Pipeline.arrRef spec1 2) (by decide)).symm
      | 3 => (arrIn1_3 (V14 m outs) kk c).trans (V15_of m outs c (Pipeline.arrRef spec1 3) (by decide)).symm
      | 4 => (arrIn1_4 (V14 m outs) kk c).trans (V15_of m outs c (Pipeline.arrRef spec1 4) (by decide)).symm
      | 5 => (arrIn1_5 (V14 m outs) kk c).trans (V15_of m outs c (Pipeline.arrRef spec1 5) (by decide)).symm
      | 6 => (h6 c).symm.trans (V15_at0 m outs c).symm
      | 7 => (h7 c).symm.trans (V15_at1 m outs c).symm
      | ⟨_ + 8, h⟩ => absurd h (Nat.not_lt.2 (Nat.le_add_left _ _)))

/-- What is held at the start is what the scores' call asks for. -/
theorem hpre0 (h0 : ∀ c, outs 1 main_v0 c = (dat0 (V0 m) c).arrAt 1 (cfg0 (F := F)).N) (c : Dev nD) :
    iprop(StableHlo.held (c : Thread nD τ) (Pipeline.ucRefs τ sig) (V0 m c) ∗ Es 0 c) ⊢ (R0 kk m outs h0).pre c := by
  show _ ⊢ iprop(StableHlo.held (c : Thread nD τ) arrs0 (V0 m c) ∗ (∃ r, prngReg c r)
    ∗ StableHlo.held (c : Thread nD τ) (Pipeline.ucRefs τ sig \ arrs0) (V0 m c) ∗ ∃ W, owes (c : Thread nD τ) (D c) W)
  rw [StableHlo.held_sub_split (c : Thread nD τ) arr0_S (V0 m c)]
  iintro ⟨⟨Ha, Hr⟩, Hp, HO⟩
  isplitl [Ha]; · iexact Ha
  isplitl [Hp]; · iexact Hp
  isplitl [Hr]; · iexact Hr
  iexact HO

/-- What the scores' call leaves is what is held after it. -/
theorem hpost0 (h0 : ∀ c, outs 1 main_v0 c = (dat0 (V0 m) c).arrAt 1 (cfg0 (F := F)).N) (c : Dev nD) :
    (R0 kk m outs h0).post c ⊢ iprop(StableHlo.held (c : Thread nD τ) (Pipeline.ucRefs τ sig) (V1 m outs c) ∗ Es 1 c) := by
  show iprop(StableHlo.held (c : Thread nD τ) arrs0 (V1 m outs c) ∗ (∃ r, prngReg c r)
    ∗ StableHlo.held (c : Thread nD τ) (Pipeline.ucRefs τ sig \ arrs0) (V0 m c) ∗ ∃ W, owes (c : Thread nD τ) (D c) W) ⊢ _
  rw [StableHlo.held_sub_split (c : Thread nD τ) arr0_S (V1 m outs c),
    StableHlo.held_congr (c : Thread nD τ) (S := Pipeline.ucRefs τ sig \ arrs0) (rest0_eq m outs c)]
  iintro ⟨Ha, Hp, Hr, HO⟩
  isplitl [Ha Hr]; · isplitl [Ha] <;> iassumption
  isplitl [Hp]; · iexact Hp
  iexact HO

/-- What is held before the suppression call is what it asks for. -/
theorem hpre1 (n : ℕ) (hk : ∀ c, Stops (V14 m outs) c n (kk c))
    (h6 : ∀ c, outs 15 main_v37_0 c = (dat1 (V14 m outs) kk c).arrAt 6 (cfg1 (F := F)).N)
    (h7 : ∀ c, outs 15 main_v37_1 c = (dat1 (V14 m outs) kk c).arrAt 7 (cfg1 (F := F)).N) (c : Dev nD) :
    iprop(StableHlo.held (c : Thread nD τ) (Pipeline.ucRefs τ sig) (V14 m outs c) ∗ Es 1 c) ⊢ (R1 kk m outs n hk h6 h7).pre c := by
  show _ ⊢ iprop(StableHlo.held (c : Thread nD τ) arrs1 (V14 m outs c) ∗ (∃ r, prngReg c r)
    ∗ StableHlo.held (c : Thread nD τ) (Pipeline.ucRefs τ sig \ arrs1) (V14 m outs c) ∗ ∃ W, owes (c : Thread nD τ) (D c) W)
  rw [StableHlo.held_sub_split (c : Thread nD τ) arr1_S (V14 m outs c)]
  iintro ⟨⟨Ha, Hr⟩, Hp, HO⟩
  isplitl [Ha]; · iexact Ha
  isplitl [Hp]; · iexact Hp
  isplitl [Hr]; · iexact Hr
  iexact HO

/-- What the suppression call leaves is what is held after it. -/
theorem hpost1 (n : ℕ) (hk : ∀ c, Stops (V14 m outs) c n (kk c))
    (h6 : ∀ c, outs 15 main_v37_0 c = (dat1 (V14 m outs) kk c).arrAt 6 (cfg1 (F := F)).N)
    (h7 : ∀ c, outs 15 main_v37_1 c = (dat1 (V14 m outs) kk c).arrAt 7 (cfg1 (F := F)).N) (c : Dev nD) :
    (R1 kk m outs n hk h6 h7).post c ⊢ iprop(StableHlo.held (c : Thread nD τ) (Pipeline.ucRefs τ sig) (V15 m outs c) ∗ Es 2 c) := by
  show iprop(StableHlo.held (c : Thread nD τ) arrs1 (V15 m outs c) ∗ (∃ r, prngReg c r)
    ∗ StableHlo.held (c : Thread nD τ) (Pipeline.ucRefs τ sig \ arrs1) (V14 m outs c) ∗ ∃ W, owes (c : Thread nD τ) (D c) W) ⊢ _
  rw [StableHlo.held_sub_split (c : Thread nD τ) arr1_S (V15 m outs c),
    StableHlo.held_congr (c : Thread nD τ) (S := Pipeline.ucRefs τ sig \ arrs1) (rest1_eq m outs c)]
  iintro ⟨Ha, Hp, Hr, HO⟩
  isplitl [Ha Hr]; · isplitl [Ha] <;> iassumption
  isplitl [Hp]; · iexact Hp
  iexact HO

/-! ## The launch -/

set_option backward.isDefEq.respectTransparency.types false in
set_option maxHeartbeats 1000000 in
/-- From any memory with zero counters every weakly fair execution terminates, with the result as the last host stretch
    computes it, every argument as launched and every counter at zero, given what the calls leave (`h0`, `h6`, `h7`) and
    that the loop stops (`hk`). -/
theorem run (ρ : Dev nD → PrngReg) (h0 : ∀ c, outs 1 main_v0 c = (dat0 (V0 m) c).arrAt 1 (cfg0 (F := F)).N)
    (n : ℕ) (hk : ∀ c, Stops (V14 m outs) c n (kk c))
    (h6 : ∀ c, outs 15 main_v37_0 c = (dat1 (V14 m outs) kk c).arrAt 6 (cfg1 (F := F)).N)
    (h7 : ∀ c, outs 15 main_v37_1 c = (dat1 (V14 m outs) kk c).arrAt 7 (cfg1 (F := F)).N) :
    θ_run defs (onTc (τ := τ) (main (F := F))) ⟨m, fun _ => 0, ρ⟩ (fun r => (∀ c : Dev nD,
      r.2.mem ((c.tc : Thread nD τ).loc main_v56) = V16 m outs c (Proc.devRef .tc main_v56)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) := by
  refine Pipeline.θ_run_regions_kit_dev_sems (pcfgs (F := F)) adm (pdats kk m outs) () cellOf_inj emb₁ defs₀ vN L lv m ρ main
    (segs m outs vN L lv Es () (pdats kk m outs) (R0 kk m outs h0) (R1 kk m outs n hk h6 h7))
    (fun c Q => by
      rewrite [main_chain c, Seg.run_eq_chain,
        show (segs m outs vN L lv Es () (pdats kk m outs) (R0 kk m outs h0) (R1 kk m outs n hk h6 h7) c).map Seg.prog = [
          Prog.lift (.customCall (Pipeline.entry 0) ()),
          StableHlo.seq hostOps1,
          StableHlo.seq hostOps1_1,
          StableHlo.seq hostOps1_2,
          StableHlo.seq hostOps1_3,
          StableHlo.seq hostOps1_4,
          StableHlo.seq hostOps1_5,
          StableHlo.seq hostOps1_6,
          StableHlo.seq hostOps1_7,
          StableHlo.seq hostOps1_8,
          StableHlo.seq hostOps1_9,
          StableHlo.seq hostOps1_10,
          StableHlo.seq hostOps1_11,
          StableHlo.seq hostOps1_12,
          Prog.lift (.customCall (Pipeline.entry 1) ()),
          StableHlo.seq hostOps2 ] from rfl]
      dsimp (config := { failIfUnchanged := false }) only
      exact .rfl)
    (fun c => by simp only [segs, Seg.pipes_host, Seg.pipes_region, Seg.pipes_nil]; decide) (O₀ := 0)
    (hL := fun g hg => if_neg hg) (G := fun _ => iprop(emp))
    (u₀ := initOf (Pipeline.cells (cfgs (F := F)) cellOf_inj) (Pipeline.launchToks (cfgs (F := F)) cellOf_inj))
    (hu₀ := by
      iintro Hu; imodintro
      isplitl [Hu]
      · iapply (show (ownU _ : sProp 𝕄) ⊢ BI.own (emb₁ (initOf (Pipeline.cells (cfgs (F := F)) cellOf_inj) (Pipeline.launchToks (cfgs (F := F)) cellOf_inj))) from .rfl); iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (V0 m c) ∗ Es 0 c))
    (Tₙ := fun c => StableHlo.held (c : Thread nD τ) (Pipeline.ucRefs τ sig) (V16 m outs c))
    (hch := fun c => ⟨hpre0 kk m outs h0 c, hpost0 kk m outs h0 c, .rfl, .rfl, .rfl, .rfl, .rfl, .rfl, .rfl, .rfl, .rfl, .rfl, .rfl, .rfl,
      hpre1 kk m outs n hk h6 h7 c, hpost1 kk m outs n hk h6 h7 c, sep_mono .rfl (by iintro ⟨-, H⟩; iexact H)⟩)
    (hinit := by
      refine Pipeline.initEach L lv fun c => ?_
      rw [show unscopedBufs c (fun b => m ((c : Thread nD τ).loc b)) = StableHlo.held (c : Thread nD τ) (Pipeline.ucRefs τ sig) (V0 m c) from
        Pipeline.unscopedBufs_held (Ix := Unit) (Name := ℕ) (U := UR sig nD τ) (Lvl := ℕ) c (V0 m c)]
      iintro ⟨⟨Hh, -, HO, -, Hp, -⟩, -⟩
      imodintro
      isplitl [Hh]; · iexact Hh
      isplitl [Hp]; · iexists _; iexact Hp
      iexists ∅; iexact HO)
    (QY := fun c s => s.mem ((c.tc : Thread nD τ).loc main_v56) = V16 m outs c (Proc.devRef .tc main_v56)
      ∧ s.mem ((c.tc : Thread nD τ).loc main_arg0) = m ((c.tc : Thread nD τ).loc main_arg0) ∧ s.mem ((c.tc : Thread nD τ).loc main_arg1) = m ((c.tc : Thread nD τ).loc main_arg1) ∧ s.mem ((c.tc : Thread nD τ).loc main_arg2) = m ((c.tc : Thread nD τ).loc main_arg2) ∧ s.mem ((c.tc : Thread nD τ).loc main_arg3) = m ((c.tc : Thread nD τ).loc main_arg3) ∧ s.mem ((c.tc : Thread nD τ).loc main_arg4) = m ((c.tc : Thread nD τ).loc main_arg4))
    (hfin := fun c s' => ?_) (hQ := fun _ h hz => ⟨h, funext fun g => hz g (.inr (regions_no_unscoped g.2))⟩)
  unfold StableHlo.held
  iintro ⟨Hh, HSI⟩
  ihave Hr := (pointsTo_read_all (Pipeline.ucRefs τ sig) (fun b => ((c : Thread nD τ).1, b)) (V16 m outs c) s') $$ [Hh HSI]
  · isplitl [Hh] <;> iassumption
  icases Hr with ⟨%h, HSI⟩
  imodintro
  isplitr
  · ipureintro
    exact ⟨h (Proc.devRef .tc main_v56) (Finset.mem_filter.mpr ⟨StableHlo.devRef_mem_tcRefs main_v56, by decide⟩),
      (h (Proc.devRef .tc main_arg0) (Finset.mem_filter.mpr ⟨StableHlo.devRef_mem_tcRefs main_arg0, by decide⟩)).trans (V16_main_arg0 m outs c),
      (h (Proc.devRef .tc main_arg1) (Finset.mem_filter.mpr ⟨StableHlo.devRef_mem_tcRefs main_arg1, by decide⟩)).trans (V16_main_arg1 m outs c),
      (h (Proc.devRef .tc main_arg2) (Finset.mem_filter.mpr ⟨StableHlo.devRef_mem_tcRefs main_arg2, by decide⟩)).trans (V16_main_arg2 m outs c),
      (h (Proc.devRef .tc main_arg3) (Finset.mem_filter.mpr ⟨StableHlo.devRef_mem_tcRefs main_arg3, by decide⟩)).trans (V16_main_arg3 m outs c),
      (h (Proc.devRef .tc main_arg4) (Finset.mem_filter.mpr ⟨StableHlo.devRef_mem_tcRefs main_arg4, by decide⟩)).trans (V16_main_arg4 m outs c)⟩
  · iexact HSI

end Launch

end Cert.KRun

end
-- ==== Proof.Nms.lean ====
/-  The suppression loop over the extended reals. Suppression only ever points from an earlier candidate to a later one,
    so after `t` trips the first `t` candidates' entries no longer change: the loop ends, and where it ends the entries
    are a fixed point of the trip. -/
module

public import proofs.«01_k».proof.Proof.K1
public import Idealize.ShloMosaic.Lib.Pointwise

@[expose] public section

set_option maxRecDepth 16384

noncomputable section

namespace Cert.Nms

open Idealize.ShloMosaic Idealize.ShloMosaic.TcCoe Idealize.SL.Sem
open Cert.KernelIdeal Cert.KernelIdeal.Gen Cert.K1

variable (s : FVec Ideal S1024x1024 .f32) (v : FVec Ideal S1x1024 .f32)

/-- One trip at one candidate: its entry in `v` times zero or one, zero where some suppressing entry is positive. -/
theorem step_apply (k : FVec Ideal S1x1024 .f32) (j : Fin 1024) :
    (k1_pay5 s v k (ix2 0 j) : EReal)
      = (v (ix2 0 j) : EReal) * (if (0 : EReal) < ∑ i : Fin 1024, (k (ix2 0 i) : EReal) * (s (ix2 i j) : EReal) then 0 else 1) := by
  unfold k1_pay5
  pointwise

/-- The word of minus infinity is the least of the extended reals. -/
theorem ofBits_neg_inf : Ideal.ofBits .f32 0xFF800000#32 = ⊥ := by simp [Ideal.ofBits, Ideal.ieee]

/-- Two rows of 1024 entries with the same entries are the same row. -/
theorem row_ext {x y : FVec Ideal S1x1024 .f32} (h : ∀ j : Fin 1024, (x (ix2 0 j) : EReal) = (y (ix2 0 j) : EReal)) : x = y := by
  funext i
  have hi : i = ix2 0 (i 1) := by
    refine (eq_ix2 i).trans ?_
    congr 1
    exact Fin.ext (by have := (i 0).isLt; change (i 0).val < 1 at this; change (i 0).val = 0; omega)
  rw [hi]; exact h (i 1)

/-- The loop goes on exactly where the trip changed an entry. -/
theorem flag_eq (k : FVec Ideal S1x1024 .f32) : flag s v k = 1#1 ↔ k1_pay5 s v k ≠ k := by
  have h6 : (k1_pay6 s v k : EReal) = Finset.fold max (⊥ : EReal)
      (fun x : Fin 1 × Fin 1024 => if (k1_pay5 s v k (ix2 0 x.2) : EReal) ≠ (k (ix2 0 x.2) : EReal) then 1 else 0) Finset.univ := by
    rw [← ofBits_neg_inf]
    unfold k1_pay6
    pointwise
  have hf : flag s v k = BitVec.ofBool (decide ((0 : EReal) < (k1_pay6 s v k : EReal))) := by
    unfold flag
    pointwise
  rw [hf, h6]
  have : (BitVec.ofBool (decide ((0 : EReal) < Finset.fold max (⊥ : EReal)
      (fun x : Fin 1 × Fin 1024 => if (k1_pay5 s v k (ix2 0 x.2) : EReal) ≠ (k (ix2 0 x.2) : EReal) then 1 else 0) Finset.univ)) = 1#1)
      ↔ (0 : EReal) < Finset.fold max (⊥ : EReal)
      (fun x : Fin 1 × Fin 1024 => if (k1_pay5 s v k (ix2 0 x.2) : EReal) ≠ (k (ix2 0 x.2) : EReal) then 1 else 0) Finset.univ := by
    by_cases h : (0 : EReal) < Finset.fold max (⊥ : EReal)
      (fun x : Fin 1 × Fin 1024 => if (k1_pay5 s v k (ix2 0 x.2) : EReal) ≠ (k (ix2 0 x.2) : EReal) then 1 else 0) Finset.univ
    · simp only [h, decide_true]; decide
    · simp only [h, decide_false]; decide
  rw [this, Finset.lt_fold_max]
  constructor
  · rintro (h | ⟨x, -, hx⟩) he
    · exact absurd h (not_lt_bot)
    · rw [he, if_neg (fun h => h rfl)] at hx
      exact lt_irrefl _ hx
  · intro h
    refine Or.inr ?_
    by_contra hn
    refine h (row_ext fun j => ?_)
    by_contra hj
    refine hn ⟨(0, j), Finset.mem_univ _, ?_⟩
    rw [if_pos hj]; exact zero_lt_one

/-- One trip's first `t + 1` entries depend on the first `t` entries alone. -/
theorem step_agree (hs : ∀ i j : Fin 1024, j ≤ i → (s (ix2 i j) : EReal) = 0) (t : ℕ) (k k' : FVec Ideal S1x1024 .f32)
    (h : ∀ i : Fin 1024, i.val < t → (k (ix2 0 i) : EReal) = (k' (ix2 0 i) : EReal)) (j : Fin 1024) (hj : j.val ≤ t) :
    (k1_pay5 s v k (ix2 0 j) : EReal) = (k1_pay5 s v k' (ix2 0 j) : EReal) := by
  rw [step_apply, step_apply]
  have : ∑ i : Fin 1024, (k (ix2 0 i) : EReal) * (s (ix2 i j) : EReal)
      = ∑ i : Fin 1024, (k' (ix2 0 i) : EReal) * (s (ix2 i j) : EReal) := by
    refine Finset.sum_congr rfl fun i _ => ?_
    by_cases hi : j ≤ i
    · rw [hs i j hi, mul_zero, mul_zero]
    · rw [h i (lt_of_lt_of_le (not_le.1 hi) hj)]
  rw [this]

/-- After `t` trips the first `t` entries no longer change. -/
theorem iter_agree (hs : ∀ i j : Fin 1024, j ≤ i → (s (ix2 i j) : EReal) = 0) (k : FVec Ideal S1x1024 .f32) :
    ∀ (t : ℕ) (j : Fin 1024), j.val < t →
      ((k1_pay5 s v)^[t] k (ix2 0 j) : EReal) = ((k1_pay5 s v)^[t + 1] k (ix2 0 j) : EReal)
  | 0, j, h => absurd h (Nat.not_lt_zero _)
  | t + 1, j, h => by
    rw [Function.iterate_succ_apply' (k1_pay5 s v) t k, Function.iterate_succ_apply' (k1_pay5 s v) (t + 1) k]
    exact step_agree s v hs t _ _ (fun i hi => iter_agree hs k t i hi) j (Nat.lt_succ_iff.1 h)

/-- After 1024 trips nothing changes any more. -/
theorem iter_fixed (hs : ∀ i j : Fin 1024, j ≤ i → (s (ix2 i j) : EReal) = 0) (k : FVec Ideal S1x1024 .f32) :
    (k1_pay5 s v)^[1024 + 1] k = (k1_pay5 s v)^[1024] k :=
  (row_ext fun j => iter_agree s v hs k 1024 j j.isLt).symm

/-- Entries that settle after `d` trips are entries the loop returns from, at a fixed point of the trip. -/
theorem runs_of (d : ℕ) : ∀ k : FVec Ideal S1x1024 .f32, (k1_pay5 s v)^[d + 1] k = (k1_pay5 s v)^[d] k →
    ∃ n r, runWhile s v n k 1#1 = some r ∧ k1_pay5 s v r = r := by
  induction d with
  | zero =>
    intro k h
    have h' : k1_pay5 s v k = k := h
    refine ⟨1, k1_pay5 s v k, ?_, by rw [h', h']⟩
    have hf : flag s v k ≠ 1#1 := fun hf => (flag_eq s v k).1 hf h'
    show (if (1#1 : BitVec 1) = 1#1 then runWhile s v 0 (k1_pay5 s v k) (flag s v k) else some k) = _
    rw [if_pos rfl]
    show (if flag s v k = 1#1 then none else some (k1_pay5 s v k)) = _
    rw [if_neg hf]
  | succ d ih =>
    intro k h
    by_cases hf : flag s v k = 1#1
    · obtain ⟨n, r, hr, hx⟩ := ih (k1_pay5 s v k) h
      refine ⟨n + 1, r, ?_, hx⟩
      show (if (1#1 : BitVec 1) = 1#1 then runWhile s v n (k1_pay5 s v k) (flag s v k) else some k) = _
      rw [if_pos rfl, hf]; exact hr
    · have h' : k1_pay5 s v k = k := by
        by_contra hne; exact hf ((flag_eq s v k).2 hne)
      refine ⟨1, k1_pay5 s v k, ?_, by rw [h', h']⟩
      show (if (1#1 : BitVec 1) = 1#1 then runWhile s v 0 (k1_pay5 s v k) (flag s v k) else some k) = _
      rw [if_pos rfl]
      show (if flag s v k = 1#1 then none else some (k1_pay5 s v k)) = _
      rw [if_neg hf]

/-- The loop ends, at a fixed point of the trip. -/
theorem runs (hs : ∀ i j : Fin 1024, j ≤ i → (s (ix2 i j) : EReal) = 0) (k : FVec Ideal S1x1024 .f32) :
    ∃ n r, runWhile s v n k 1#1 = some r ∧ k1_pay5 s v r = r :=
  runs_of s v 1024 k (iter_fixed s v hs k)

/-- More fuel does not change what the loop returns. -/
theorem runWhile_more : ∀ (n d : ℕ) (k : FVec Ideal S1x1024 .f32) (b : BitVec 1) (r : FVec Ideal S1x1024 .f32),
    runWhile s v n k b = some r → runWhile s v (n + d) k b = some r
  | 0, d, k, b, r, h => by
    have h' : (if b = 1#1 then none else some k) = some r := h
    by_cases hb : b = 1#1
    · rw [if_pos hb] at h'; exact absurd h' (by simp)
    · rw [if_neg hb] at h'
      cases d with
      | zero => exact h
      | succ d =>
        rw [Nat.zero_add]
        show (if b = 1#1 then runWhile s v d (k1_pay5 s v k) (flag s v k) else some k) = some r
        rw [if_neg hb]; exact h'
  | n + 1, d, k, b, r, h => by
    have h' : (if b = 1#1 then runWhile s v n (k1_pay5 s v k) (flag s v k) else some k) = some r := h
    rw [Nat.add_right_comm]
    show (if b = 1#1 then runWhile s v (n + d) (k1_pay5 s v k) (flag s v k) else some k) = some r
    by_cases hb : b = 1#1
    · rw [if_pos hb] at h' ⊢; exact runWhile_more n d _ _ r h'
    · rw [if_neg hb] at h' ⊢; exact h'

/-! ## The fixed point is the greedy selection -/

/-- At a fixed point a candidate is kept exactly if it is admissible and no kept candidate suppresses it. -/
theorem fixed_iff (S : Fin 1024 → Fin 1024 → Prop) [∀ i j, Decidable (S i j)] (W : Fin 1024 → Prop) [∀ j, Decidable (W j)]
    (hs : ∀ i j, (s (ix2 i j) : EReal) = if S i j then 1 else 0) (hv : ∀ j, (v (ix2 0 j) : EReal) = if W j then 1 else 0)
    (r : FVec Ideal S1x1024 .f32) (hr : k1_pay5 s v r = r) (j : Fin 1024) :
    (0 : EReal) < (r (ix2 0 j) : EReal) ↔ W j ∧ ∀ i, S i j → ¬ (0 : EReal) < (r (ix2 0 i) : EReal) := by
  have hx : ∀ j : Fin 1024, (r (ix2 0 j) : EReal) = (if W j then 1 else 0)
      * (if (0 : EReal) < ∑ i : Fin 1024, (r (ix2 0 i) : EReal) * (s (ix2 i j) : EReal) then 0 else 1) := fun j => by
    rw [← hv j, ← step_apply s v r j, hr]
  have hnn : ∀ i : Fin 1024, (0 : EReal) ≤ (r (ix2 0 i) : EReal) := fun i => by
    rw [hx i]; split <;> split <;> simp
  have hsum : (0 : EReal) < ∑ i : Fin 1024, (r (ix2 0 i) : EReal) * (s (ix2 i j) : EReal)
      ↔ ∃ i, S i j ∧ (0 : EReal) < (r (ix2 0 i) : EReal) := by
    constructor
    · intro h
      by_contra hn
      refine absurd h (not_lt_of_ge (le_of_eq (Finset.sum_eq_zero fun i _ => ?_)))
      rw [hs i j]
      by_cases hS : S i j
      · rw [if_pos hS, mul_one]
        exact le_antisymm (not_lt.1 fun h' => hn ⟨i, hS, h'⟩) (hnn i)
      · rw [if_neg hS, mul_zero]
    · rintro ⟨i, hS, hi⟩
      refine lt_of_lt_of_le hi (le_trans (le_of_eq ?_) (Finset.single_le_sum (f := fun i : Fin 1024 => (r (ix2 0 i) : EReal) * (s (ix2 i j) : EReal)) (fun a _ => ?_) (Finset.mem_univ i)))
      · show _ = (r (ix2 0 i) : EReal) * (s (ix2 i j) : EReal)
        rw [hs i j, if_pos hS, mul_one]
      · show (0 : EReal) ≤ (r (ix2 0 a) : EReal) * (s (ix2 a j) : EReal)
        rw [hs a j]; split
        · rw [mul_one]; exact hnn a
        · rw [mul_zero]
  rw [hx j]
  by_cases hW : W j
  · rw [if_pos hW, one_mul]
    by_cases hp : (0 : EReal) < ∑ i : Fin 1024, (r (ix2 0 i) : EReal) * (s (ix2 i j) : EReal)
    · rw [if_pos hp]
      obtain ⟨i, hS, hi⟩ := hsum.1 hp
      exact iff_of_false (lt_irrefl _) fun h => h.2 i hS hi
    · rw [if_neg hp]
      exact iff_of_true zero_lt_one ⟨hW, fun i hS hi => hp (hsum.2 ⟨i, hS, hi⟩)⟩
  · rw [if_neg hW, zero_mul]
    exact iff_of_false (lt_irrefl _) fun h => hW h.1

/-- The greedy pass over the first 1000 candidates, one candidate at a time, keeps the same candidates. -/
theorem greedy (S : Fin 1024 → Fin 1024 → Prop) (W P : Fin 1024 → Prop) (hlt : ∀ i j, S i j → i < j)
    (hP : ∀ j, P j ↔ W j ∧ ∀ i, S i j → ¬ P i)
    (Q : ℕ → Fin 1000 → Prop) (h0 : ∀ j : Fin 1000, Q 0 j ↔ W ⟨j.val, by omega⟩)
    (hQ : ∀ (t : ℕ) (ht : t < 1000) (j : Fin 1000), Q (t + 1) j ↔ Q t j ∧ ¬ (S ⟨t, by omega⟩ ⟨j.val, by omega⟩ ∧ Q t ⟨t, ht⟩))
    (j : Fin 1000) : Q 1000 j ↔ P ⟨j.val, by omega⟩ := by
  have key : ∀ t : ℕ, t ≤ 1000 → ∀ j : Fin 1000,
      Q t j ↔ W ⟨j.val, by omega⟩ ∧ ∀ i : Fin 1024, i.val < t → S i ⟨j.val, by omega⟩ → ¬ P i := by
    intro t
    induction t with
    | zero => exact fun _ j => (h0 j).trans ⟨fun h => ⟨h, fun i hi => absurd hi (Nat.not_lt_zero _)⟩, fun h => h.1⟩
    | succ t ih =>
      intro ht j
      have hpt : Q t ⟨t, ht⟩ ↔ P ⟨t, by omega⟩ := by
        rw [ih (by omega) ⟨t, ht⟩, hP]
        exact and_congr_right fun _ => ⟨fun h i hS => h i (hlt _ _ hS) hS, fun h i _ hS => h i hS⟩
      rw [hQ t ht j, ih (by omega) j, hpt]
      constructor
      · rintro ⟨⟨hw, h⟩, hn⟩
        refine ⟨hw, fun i hi hS hp => ?_⟩
        rcases Nat.lt_succ_iff_lt_or_eq.1 hi with h' | h'
        · exact h i h' hS hp
        · have : i = ⟨t, by omega⟩ := Fin.ext h'
          rw [this] at hS hp
          exact hn ⟨hS, hp⟩
      · rintro ⟨hw, h⟩
        exact ⟨⟨hw, fun i hi => h i (Nat.lt_succ_of_lt hi)⟩, fun hh => h _ (Nat.lt_succ_self t) hh.1 hh.2⟩
  rw [key 1000 le_rfl j, hP]
  exact and_congr_right fun _ => ⟨fun h i hS => h i (lt_trans (hlt _ _ hS) j.isLt) hS, fun h i _ hS => h i hS⟩

/-- The loop starts from one where a candidate's thresholded score is positive and from zero elsewhere. -/
theorem pay3_apply (x : FVec Ideal S1x1024 .f32) (j : Fin 1024) :
    (k1_pay3 x (ix2 0 j) : EReal) = if (0 : EReal) < (k1_pay2 x (ix2 0 j) : EReal) then 1 else 0 := by
  have h : (k1_pay3 x (ix2 0 j) : EReal)
      = (((BitVec.setWidth 32 (BitVec.ofBool (decide ((0 : EReal) < (k1_pay2 x (ix2 0 j) : EReal))))).toInt : ℝ) : EReal) := by
    unfold k1_pay3
    pointwise
    rfl
  rw [h]
  by_cases hp : (0 : EReal) < (k1_pay2 x (ix2 0 j) : EReal)
  · rw [if_pos hp, decide_eq_true hp, show (BitVec.setWidth 32 (BitVec.ofBool true)).toInt = 1 by decide]
    norm_num
  · rw [if_neg hp, decide_eq_false hp, show (BitVec.setWidth 32 (BitVec.ofBool false)).toInt = 0 by decide]
    norm_num

/-- The marks as numbers: one where the word is 1, and zero elsewhere. -/
theorem pay1_apply (x : IVec S1024x1024 1) (i j : Fin 1024) :
    (k1_pay1 (F := Ideal) x (ix2 i j) : EReal) = if x (ix2 i j) = 1#1 then 1 else 0 := by
  unfold k1_pay1
  pointwise
  rfl

/-- A small natural number survives the trip through a signed word. -/
theorem toInt_small (n : ℕ) (h : n < 2147483648) : (BitVec.ofNat 32 n).toInt = n := by
  have h1 : (BitVec.ofNat 32 n).toNat = n := by rw [BitVec.toNat_ofNat]; exact Nat.mod_eq_of_lt (by omega)
  rw [BitVec.toInt_eq_toNat_of_lt (by rw [h1]; omega), h1]

/-- Comparing two small natural numbers as signed words is comparing the numbers. -/
theorem cmpi_slt (i j : ℕ) (hi : i < 2147483648) (hj : j < 2147483648) :
    IntOp.cmpi .slt (BitVec.ofNat 32 i) (BitVec.ofNat 32 j) = BitVec.ofBool (decide (i < j)) := by
  show BitVec.ofBool (BitVec.slt (BitVec.ofNat 32 i) (BitVec.ofNat 32 j)) = _
  rw [BitVec.slt, toInt_small i hi, toInt_small j hj]
  congr 1
  exact decide_eq_decide.2 Int.ofNat_lt

/-- A conjunction with the word 0 is 0. -/
theorem and_zero (a b : BitVec 1) (h : b = 0#1) : IntOp.andi a b = 0#1 := by
  subst h; revert a; decide

/-- Suppression points from an earlier candidate to a later one. -/
theorem sup_strict (x0 x2 : Vec Ideal S4x1024 .f32) (x1 x3 : Vec Ideal S1024x4 .f32) (x4 : Vec Ideal S2x1024 .f32)
    (x5 : Vec Ideal S1024x2 .f32) (i j : Fin 1024) (h : j ≤ i) : supB (F := Ideal) x0 x1 x2 x3 x4 x5 (ix2 i j) = 0#1 := by
  unfold supB k1_pay48
  refine and_zero _ _ ?_
  pointwise
  rw [cmpi_slt _ _ (by omega) (by omega), decide_eq_false (by have := Fin.le_def.1 h; omega)]
  rfl

end Cert.Nms
-- ==== Proof.KFrame.lean ====
/-  The whole kernel over the extended reals: what the two calls leave, the suppression loop's result (which exists), and
    with them the run from any memory. -/
module

public import proofs.«01_k».proof.Proof.KRun
public import proofs.«01_k».proof.Proof.Nms

@[expose] public section

set_option maxRecDepth 16384

noncomputable section

namespace Cert.KFrame

open Idealize.ShloMosaic Idealize.ShloMosaic.TcCoe Idealize.SL.Sem
open Cert.KernelIdeal Cert.KernelIdeal.Gen Cert.K1 Cert.KRun

variable (m : (ℓ : Loc nD τ sig) → Buf (Elt Ideal) ℓ)

/-- What the scores call leaves; every other buffer as launched. -/
def outsA : Outs (F := Ideal) := fun _ r c =>
  Function.update (β := fun r : Ref sig .tc => Buf (Elt Ideal) ((c : Thread nD τ).loc r)) (fun r => m ((c : Thread nD τ).loc r)) main_v0 ((dat0 (V0 m) c).arrAt 1 (cfg0 (F := Ideal)).N) r

/-- The suppression call's inputs are what the host makes of the scores call's result. -/
abbrev VA (c : Dev nD) : Valuation τ sig (Elt Ideal) := V14 m (outsA m) c

/-- The loop returns. -/
theorem stops (c : Dev nD) : ∃ n k, Stops (VA m) c n k ∧ ∀ t, k1_pay5 (k1_pay1 (supB (iblk1 (VA m) c 0 t) (iblk1 (VA m) c 1 t)
      (iblk1 (VA m) c 2 t) (iblk1 (VA m) c 3 t) (iblk1 (VA m) c 4 t) (iblk1 (VA m) c 5 t))) (k1_pay3 (sc (iblk1 (VA m) c 4 t))) k = k := by
  have hN : ∀ t : Fin (cfg1 (F := Ideal)).N, t = ⟨0, by decide⟩ := fun t => Fin.ext (by
    have := t.isLt
    have h1 : (cfg1 (F := Ideal)).N = 1 := by decide
    omega)
  obtain ⟨n, k, hk, hf⟩ := Nms.runs (k1_pay1 (supB (iblk1 (VA m) c 0 ⟨0, by decide⟩) (iblk1 (VA m) c 1 ⟨0, by decide⟩)
      (iblk1 (VA m) c 2 ⟨0, by decide⟩) (iblk1 (VA m) c 3 ⟨0, by decide⟩) (iblk1 (VA m) c 4 ⟨0, by decide⟩) (iblk1 (VA m) c 5 ⟨0, by decide⟩)))
    (k1_pay3 (sc (iblk1 (VA m) c 4 ⟨0, by decide⟩)))
    (fun i j h => by
      rw [Nms.pay1_apply, Nms.sup_strict _ _ _ _ _ _ i j h, if_neg (by decide)])
    (k1_pay3 (sc (iblk1 (VA m) c 4 ⟨0, by decide⟩)))
  exact ⟨n, k, fun t => by rw [hN t]; exact hk, fun t => by rw [hN t]; exact hf⟩

/-- What the loop returns. -/
def kk (c : Dev nD) : FVec Ideal S1x1024 .f32 := (stops m c).choose_spec.choose

/-- What both calls leave. -/
def outs : Outs (F := Ideal) := fun n r c =>
  Function.update (β := fun r : Ref sig .tc => Buf (Elt Ideal) ((c : Thread nD τ).loc r))
    (Function.update (β := fun r : Ref sig .tc => Buf (Elt Ideal) ((c : Thread nD τ).loc r))
    (fun r => outsA m n r c) main_v37_0 ((dat1 (VA m) (kk m) c).arrAt 6 (cfg1 (F := Ideal)).N))
    main_v37_1 ((dat1 (VA m) (kk m) c).arrAt 7 (cfg1 (F := Ideal)).N) r

/-- The scores' call's result in the finished assignment of results. -/
theorem outs_v0 (n : ℕ) (c : Dev nD) : outs m n main_v0 c = (dat0 (V0 m) c).arrAt 1 (cfg0 (F := Ideal)).N := by
  unfold outs
  rw [Function.update_of_ne (by decide), Function.update_of_ne (by decide)]
  unfold outsA
  rw [Function.update_self]

/-- The scores' call's result in the first assignment of results. -/
theorem outsA_v0 (n : ℕ) (c : Dev nD) : outsA m n main_v0 c = (dat0 (V0 m) c).arrAt 1 (cfg0 (F := Ideal)).N := by
  unfold outsA
  rw [Function.update_self]

/-- The two assignments agree after the scores' call. -/
theorem V1_eq : V1 m (outs m) = V1 m (outsA m) := by
  funext c
  unfold V1
  rw [outs_v0, outsA_v0]

/-- The two assignments agree where the suppression call starts. -/
theorem V14_eq : V14 m (outs m) = VA m := by
  funext c
  have h := congrFun (V1_eq m) c
  unfold VA V14 V13 V12 V11 V10 V9 V8 V7 V6 V5 V4 V3 V2
  rw [h]

/-- The run of the kernel: it ends, its result is as the last stretch leaves it, and its inputs are unchanged. -/
theorem run (ρ : Dev nD → PrngReg) :
    θ_run defs (onTc (τ := τ) (main (F := Ideal))) ⟨m, fun _ => 0, ρ⟩ (fun r => (∀ c : Dev nD,
      r.2.mem ((c.tc : Thread nD τ).loc main_v56) = V16 m (outs m) c (Proc.devRef .tc main_v56)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) := by
  have hst : ∀ c, Stops (V14 m (outs m)) c (∑ d : Dev nD, (stops m d).choose) (kk m c) := fun c t => by
    rw [V14_eq]
    have h := (stops m c).choose_spec.choose_spec.1 t
    obtain ⟨e, he⟩ := Nat.exists_eq_add_of_le (Finset.single_le_sum (f := fun d : Dev nD => (stops m d).choose) (fun _ _ => Nat.zero_le _) (Finset.mem_univ c))
    rw [he]
    exact Nms.runWhile_more _ _ _ e _ _ _ h
  refine KRun.run (kk m) m (outs m) ρ (fun c => outs_v0 m 1 c) _ hst (fun c => ?_) (fun c => ?_)
  · rw [V14_eq]; unfold outs
    rw [Function.update_of_ne (by decide), Function.update_self]
  · rw [V14_eq]; unfold outs
    rw [Function.update_self]

/-- The entries the loop returns are unchanged by one more trip. -/
theorem fixed (c : Dev nD) (t) : k1_pay5 (k1_pay1 (supB (iblk1 (VA m) c 0 t) (iblk1 (VA m) c 1 t)
      (iblk1 (VA m) c 2 t) (iblk1 (VA m) c 3 t) (iblk1 (VA m) c 4 t) (iblk1 (VA m) c 5 t))) (k1_pay3 (sc (iblk1 (VA m) c 4 t))) (kk m c) = kk m c :=
  (stops m c).choose_spec.choose_spec.2 t

end Cert.KFrame
-- ==== Proof.RFrame.lean ====
/-  The reference's run: every buffer at each point of the program, what each stretch leaves alone, and with them the
    reference's arguments at the end. -/
module

public import proofs.«01_k».proof.Proof.Gen.ReferenceIdeal.Run

@[expose] public section

set_option maxRecDepth 16384

noncomputable section

namespace Cert.RFrame

open Idealize.ShloMosaic Idealize.ShloMosaic.TcCoe Idealize.SL.Sem Idealize.ShloMosaic.StableHlo
open Cert.ReferenceIdeal Cert.ReferenceIdeal.Gen Cert.ReferenceIdeal.Value

variable {F : FTy → Type} [FloatOps F]
variable (m : (ℓ : Loc nD τ sig) → Buf (Elt F) ℓ) (c : Dev nD)

/-! The buffers before the loop, stretch by stretch. -/
abbrev B0 : Valuation τ sig (Elt F) := launchContents m c
abbrev B1 : Valuation τ sig (Elt F) := after hostOps0 (B0 m c)
/-- What stretch 1 does not write is as it was. -/
theorem B1_of (r : Ref sig .tc) (h : r ∉ hostOps0_W) : B1 m c (Proc.devRef .tc r) = B0 m c (Proc.devRef .tc r) :=
  after_of_writes_sub hostOps0 _ hostOps0_writes h
abbrev B2 : Valuation τ sig (Elt F) := after hostOps0_1 (B1 m c)
/-- What stretch 2 does not write is as it was. -/
theorem B2_of (r : Ref sig .tc) (h : r ∉ hostOps0_1_W) : B2 m c (Proc.devRef .tc r) = B1 m c (Proc.devRef .tc r) :=
  after_of_writes_sub hostOps0_1 _ hostOps0_1_writes h
abbrev B3 : Valuation τ sig (Elt F) := after hostOps0_2 (B2 m c)
/-- What stretch 3 does not write is as it was. -/
theorem B3_of (r : Ref sig .tc) (h : r ∉ hostOps0_2_W) : B3 m c (Proc.devRef .tc r) = B2 m c (Proc.devRef .tc r) :=
  after_of_writes_sub hostOps0_2 _ hostOps0_2_writes h
abbrev B4 : Valuation τ sig (Elt F) := after hostOps0_3 (B3 m c)
/-- What stretch 4 does not write is as it was. -/
theorem B4_of (r : Ref sig .tc) (h : r ∉ hostOps0_3_W) : B4 m c (Proc.devRef .tc r) = B3 m c (Proc.devRef .tc r) :=
  after_of_writes_sub hostOps0_3 _ hostOps0_3_writes h
abbrev B5 : Valuation τ sig (Elt F) := after hostOps0_4 (B4 m c)
/-- What stretch 5 does not write is as it was. -/
theorem B5_of (r : Ref sig .tc) (h : r ∉ hostOps0_4_W) : B5 m c (Proc.devRef .tc r) = B4 m c (Proc.devRef .tc r) :=
  after_of_writes_sub hostOps0_4 _ hostOps0_4_writes h
abbrev B6 : Valuation τ sig (Elt F) := after hostOps0_5 (B5 m c)
/-- What stretch 6 does not write is as it was. -/
theorem B6_of (r : Ref sig .tc) (h : r ∉ hostOps0_5_W) : B6 m c (Proc.devRef .tc r) = B5 m c (Proc.devRef .tc r) :=
  after_of_writes_sub hostOps0_5 _ hostOps0_5_writes h
abbrev B7 : Valuation τ sig (Elt F) := after hostOps0_6 (B6 m c)
/-- What stretch 7 does not write is as it was. -/
theorem B7_of (r : Ref sig .tc) (h : r ∉ hostOps0_6_W) : B7 m c (Proc.devRef .tc r) = B6 m c (Proc.devRef .tc r) :=
  after_of_writes_sub hostOps0_6 _ hostOps0_6_writes h
abbrev B8 : Valuation τ sig (Elt F) := after hostOps0_7 (B7 m c)
/-- What stretch 8 does not write is as it was. -/
theorem B8_of (r : Ref sig .tc) (h : r ∉ hostOps0_7_W) : B8 m c (Proc.devRef .tc r) = B7 m c (Proc.devRef .tc r) :=
  after_of_writes_sub hostOps0_7 _ hostOps0_7_writes h
abbrev B9 : Valuation τ sig (Elt F) := after hostOps0_8 (B8 m c)
/-- What stretch 9 does not write is as it was. -/
theorem B9_of (r : Ref sig .tc) (h : r ∉ hostOps0_8_W) : B9 m c (Proc.devRef .tc r) = B8 m c (Proc.devRef .tc r) :=
  after_of_writes_sub hostOps0_8 _ hostOps0_8_writes h
abbrev B10 : Valuation τ sig (Elt F) := after hostOps0_9 (B9 m c)
/-- What stretch 10 does not write is as it was. -/
theorem B10_of (r : Ref sig .tc) (h : r ∉ hostOps0_9_W) : B10 m c (Proc.devRef .tc r) = B9 m c (Proc.devRef .tc r) :=
  after_of_writes_sub hostOps0_9 _ hostOps0_9_writes h
abbrev B11 : Valuation τ sig (Elt F) := after hostOps0_10 (B10 m c)
/-- What stretch 11 does not write is as it was. -/
theorem B11_of (r : Ref sig .tc) (h : r ∉ hostOps0_10_W) : B11 m c (Proc.devRef .tc r) = B10 m c (Proc.devRef .tc r) :=
  after_of_writes_sub hostOps0_10 _ hostOps0_10_writes h
abbrev B12 : Valuation τ sig (Elt F) := after hostOps0_11 (B11 m c)
/-- What stretch 12 does not write is as it was. -/
theorem B12_of (r : Ref sig .tc) (h : r ∉ hostOps0_11_W) : B12 m c (Proc.devRef .tc r) = B11 m c (Proc.devRef .tc r) :=
  after_of_writes_sub hostOps0_11 _ hostOps0_11_writes h
abbrev B13 : Valuation τ sig (Elt F) := after hostOps0_12 (B12 m c)
/-- What stretch 13 does not write is as it was. -/
theorem B13_of (r : Ref sig .tc) (h : r ∉ hostOps0_12_W) : B13 m c (Proc.devRef .tc r) = B12 m c (Proc.devRef .tc r) :=
  after_of_writes_sub hostOps0_12 _ hostOps0_12_writes h
abbrev B14 : Valuation τ sig (Elt F) := after hostOps0_13 (B13 m c)
/-- What stretch 14 does not write is as it was. -/
theorem B14_of (r : Ref sig .tc) (h : r ∉ hostOps0_13_W) : B14 m c (Proc.devRef .tc r) = B13 m c (Proc.devRef .tc r) :=
  after_of_writes_sub hostOps0_13 _ hostOps0_13_writes h
abbrev B15 : Valuation τ sig (Elt F) := after hostOps0_14 (B14 m c)
/-- What stretch 15 does not write is as it was. -/
theorem B15_of (r : Ref sig .tc) (h : r ∉ hostOps0_14_W) : B15 m c (Proc.devRef .tc r) = B14 m c (Proc.devRef .tc r) :=
  after_of_writes_sub hostOps0_14 _ hostOps0_14_writes h
abbrev B16 : Valuation τ sig (Elt F) := after hostOps0_15 (B15 m c)
/-- What stretch 16 does not write is as it was. -/
theorem B16_of (r : Ref sig .tc) (h : r ∉ hostOps0_15_W) : B16 m c (Proc.devRef .tc r) = B15 m c (Proc.devRef .tc r) :=
  after_of_writes_sub hostOps0_15 _ hostOps0_15_writes h
abbrev B17 : Valuation τ sig (Elt F) := after hostOps0_16 (B16 m c)
/-- What stretch 17 does not write is as it was. -/
theorem B17_of (r : Ref sig .tc) (h : r ∉ hostOps0_16_W) : B17 m c (Proc.devRef .tc r) = B16 m c (Proc.devRef .tc r) :=
  after_of_writes_sub hostOps0_16 _ hostOps0_16_writes h

/-- What the loop starts from is what the stretches before it leave. -/
theorem entry_eq : entryContents preI m c = B17 m c := rfl

/-! What the stretches after the loop write. -/
abbrev hostOps0_17_W : List (Ref sig .tc) := [main_cst_35]
abbrev hostOps0_18_W : List (Ref sig .tc) := [main_call8_v0, main_call8_v1, main_v165]
abbrev hostOps0_19_W : List (Ref sig .tc) := [main_values_36, main_indices_37, main_c_38, main_v166, main_v167, main_c_39, main_v168, main_v169, main_v170, main_v171, main_v172, main_c_40, main_v173, main_v174, main_c_41, main_v175, main_v176, main_v177, main_v178, main_v179, main_v180, main_v181, main_v182, main_v183]
/-- What the first stretch after the loop writes. -/
theorem hostOps0_17_writes : (hostOps0_17 : List (HloOp τ sig (Elt F))).Forall fun op => op.writes ⊆ (hostOps0_17_W.map (Proc.devRef (τ := τ) .tc)).toFinset :=
  StableHlo.forall_writes_sub_of_map rfl
/-- What the second stretch after the loop writes. -/
theorem hostOps0_18_writes : (hostOps0_18 : List (HloOp τ sig (Elt F))).Forall fun op => op.writes ⊆ (hostOps0_18_W.map (Proc.devRef (τ := τ) .tc)).toFinset :=
  StableHlo.forall_writes_sub_of_map rfl
/-- What the third stretch after the loop writes. -/
theorem hostOps0_19_writes : (hostOps0_19 : List (HloOp τ sig (Elt F))).Forall fun op => op.writes ⊆ (hostOps0_19_W.map (Proc.devRef (τ := τ) .tc)).toFinset :=
  StableHlo.forall_writes_sub_of_map rfl

/-- The buffers after the loop. -/
abbrev X : Valuation τ sig (Elt F) := atK m 1000 c
abbrev B18 : Valuation τ sig (Elt F) := after condOps (X m c)
abbrev B19 : Valuation τ sig (Elt F) := after hostOps0_17 (B18 m c)
abbrev B20 : Valuation τ sig (Elt F) := after hostOps0_18 (B19 m c)
abbrev B21 : Valuation τ sig (Elt F) := after hostOps0_19 (B20 m c)

/-- What the program ends with is what the stretches after the loop leave. -/
theorem final_eq : finalContents condOps preI bodyI postI 1000 m c = B21 m c := rfl

/-- A buffer the loop does not write is after any number of trips as before them. -/
theorem atK_of (r : Ref sig .tc) (h : r ∉ condOps_W) (h' : r ∉ while0Ops0_W) :
    ∀ k, atK m k c (Proc.devRef .tc r) = B17 m c (Proc.devRef .tc r)
  | 0 => rfl
  | k + 1 => by
    show after while0Ops0 (after condOps (atK m k c)) (Proc.devRef .tc r) = _
    rw [after_of_writes_sub while0Ops0 _ while0Ops0_writes h', after_of_writes_sub condOps _ condOps_writes h]
    exact atK_of r h h' k

/-- What the loop does not write is as it was. -/
theorem X_of (r : Ref sig .tc) (h : r ∉ condOps_W) (h' : r ∉ while0Ops0_W) : X m c (Proc.devRef .tc r) = B17 m c (Proc.devRef .tc r) :=
  atK_of m c r h h' 1000
/-- What stretch 18 does not write is as it was. -/
theorem B18_of (r : Ref sig .tc) (h : r ∉ condOps_W) : B18 m c (Proc.devRef .tc r) = X m c (Proc.devRef .tc r) :=
  after_of_writes_sub condOps _ condOps_writes h
/-- What stretch 19 does not write is as it was. -/
theorem B19_of (r : Ref sig .tc) (h : r ∉ hostOps0_17_W) : B19 m c (Proc.devRef .tc r) = B18 m c (Proc.devRef .tc r) :=
  after_of_writes_sub hostOps0_17 _ hostOps0_17_writes h
/-- What stretch 20 does not write is as it was. -/
theorem B20_of (r : Ref sig .tc) (h : r ∉ hostOps0_18_W) : B20 m c (Proc.devRef .tc r) = B19 m c (Proc.devRef .tc r) :=
  after_of_writes_sub hostOps0_18 _ hostOps0_18_writes h
/-- What stretch 21 does not write is as it was. -/
theorem B21_of (r : Ref sig .tc) (h : r ∉ hostOps0_19_W) : B21 m c (Proc.devRef .tc r) = B20 m c (Proc.devRef .tc r) :=
  after_of_writes_sub hostOps0_19 _ hostOps0_19_writes h

/-- Input 0 is unchanged at the end. -/
theorem end_main_arg0 : B21 m c (Proc.devRef .tc main_arg0) = m ((c.tc : Thread nD τ).loc main_arg0) := by
  rw [B21_of m c main_arg0 (by decide), B20_of m c main_arg0 (by decide), B19_of m c main_arg0 (by decide), B18_of m c main_arg0 (by decide), X_of m c main_arg0 (by decide) (by decide), B17_of m c main_arg0 (by decide), B16_of m c main_arg0 (by decide), B15_of m c main_arg0 (by decide), B14_of m c main_arg0 (by decide), B13_of m c main_arg0 (by decide), B12_of m c main_arg0 (by decide), B11_of m c main_arg0 (by decide), B10_of m c main_arg0 (by decide), B9_of m c main_arg0 (by decide), B8_of m c main_arg0 (by decide), B7_of m c main_arg0 (by decide), B6_of m c main_arg0 (by decide), B5_of m c main_arg0 (by decide), B4_of m c main_arg0 (by decide), B3_of m c main_arg0 (by decide), B2_of m c main_arg0 (by decide), B1_of m c main_arg0 (by decide)]
/-- Input 1 is unchanged at the end. -/
theorem end_main_arg1 : B21 m c (Proc.devRef .tc main_arg1) = m ((c.tc : Thread nD τ).loc main_arg1) := by
  rw [B21_of m c main_arg1 (by decide), B20_of m c main_arg1 (by decide), B19_of m c main_arg1 (by decide), B18_of m c main_arg1 (by decide), X_of m c main_arg1 (by decide) (by decide), B17_of m c main_arg1 (by decide), B16_of m c main_arg1 (by decide), B15_of m c main_arg1 (by decide), B14_of m c main_arg1 (by decide), B13_of m c main_arg1 (by decide), B12_of m c main_arg1 (by decide), B11_of m c main_arg1 (by decide), B10_of m c main_arg1 (by decide), B9_of m c main_arg1 (by decide), B8_of m c main_arg1 (by decide), B7_of m c main_arg1 (by decide), B6_of m c main_arg1 (by decide), B5_of m c main_arg1 (by decide), B4_of m c main_arg1 (by decide), B3_of m c main_arg1 (by decide), B2_of m c main_arg1 (by decide), B1_of m c main_arg1 (by decide)]
/-- Input 2 is unchanged at the end. -/
theorem end_main_arg2 : B21 m c (Proc.devRef .tc main_arg2) = m ((c.tc : Thread nD τ).loc main_arg2) := by
  rw [B21_of m c main_arg2 (by decide), B20_of m c main_arg2 (by decide), B19_of m c main_arg2 (by decide), B18_of m c main_arg2 (by decide), X_of m c main_arg2 (by decide) (by decide), B17_of m c main_arg2 (by decide), B16_of m c main_arg2 (by decide), B15_of m c main_arg2 (by decide), B14_of m c main_arg2 (by decide), B13_of m c main_arg2 (by decide), B12_of m c main_arg2 (by decide), B11_of m c main_arg2 (by decide), B10_of m c main_arg2 (by decide), B9_of m c main_arg2 (by decide), B8_of m c main_arg2 (by decide), B7_of m c main_arg2 (by decide), B6_of m c main_arg2 (by decide), B5_of m c main_arg2 (by decide), B4_of m c main_arg2 (by decide), B3_of m c main_arg2 (by decide), B2_of m c main_arg2 (by decide), B1_of m c main_arg2 (by decide)]
/-- Input 3 is unchanged at the end. -/
theorem end_main_arg3 : B21 m c (Proc.devRef .tc main_arg3) = m ((c.tc : Thread nD τ).loc main_arg3) := by
  rw [B21_of m c main_arg3 (by decide), B20_of m c main_arg3 (by decide), B19_of m c main_arg3 (by decide), B18_of m c main_arg3 (by decide), X_of m c main_arg3 (by decide) (by decide), B17_of m c main_arg3 (by decide), B16_of m c main_arg3 (by decide), B15_of m c main_arg3 (by decide), B14_of m c main_arg3 (by decide), B13_of m c main_arg3 (by decide), B12_of m c main_arg3 (by decide), B11_of m c main_arg3 (by decide), B10_of m c main_arg3 (by decide), B9_of m c main_arg3 (by decide), B8_of m c main_arg3 (by decide), B7_of m c main_arg3 (by decide), B6_of m c main_arg3 (by decide), B5_of m c main_arg3 (by decide), B4_of m c main_arg3 (by decide), B3_of m c main_arg3 (by decide), B2_of m c main_arg3 (by decide), B1_of m c main_arg3 (by decide)]
/-- Input 4 is unchanged at the end. -/
theorem end_main_arg4 : B21 m c (Proc.devRef .tc main_arg4) = m ((c.tc : Thread nD τ).loc main_arg4) := by
  rw [B21_of m c main_arg4 (by decide), B20_of m c main_arg4 (by decide), B19_of m c main_arg4 (by decide), B18_of m c main_arg4 (by decide), X_of m c main_arg4 (by decide) (by decide), B17_of m c main_arg4 (by decide), B16_of m c main_arg4 (by decide), B15_of m c main_arg4 (by decide), B14_of m c main_arg4 (by decide), B13_of m c main_arg4 (by decide), B12_of m c main_arg4 (by decide), B11_of m c main_arg4 (by decide), B10_of m c main_arg4 (by decide), B9_of m c main_arg4 (by decide), B8_of m c main_arg4 (by decide), B7_of m c main_arg4 (by decide), B6_of m c main_arg4 (by decide), B5_of m c main_arg4 (by decide), B4_of m c main_arg4 (by decide), B3_of m c main_arg4 (by decide), B2_of m c main_arg4 (by decide), B1_of m c main_arg4 (by decide)]

/-- From any memory with zero counters every weakly fair execution of the reference terminates, with the result as the
    last stretch computes it, every argument as launched and every counter at zero. -/
theorem run (ρ : Dev nD → PrngReg) :
    θ_run (defs (F := F)) (onTc (τ := τ) (main (F := F))) ⟨m, fun _ => 0, ρ⟩ (fun r => (∀ c : Dev nD,
      r.2.mem ((c.tc : Thread nD τ).loc main_v183) = B21 m c (Proc.devRef .tc main_v183)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) := by
  refine (θ_run (defs (F := F)) _ _).mono (fun r h => ⟨fun c => ⟨?_, ?_, ?_, ?_, ?_, ?_⟩, ?_⟩) (run_fold m ρ)
  · exact h c main_v183 rfl
  · exact (h c main_arg0 rfl).trans (end_main_arg0 m c)
  · exact (h c main_arg1 rfl).trans (end_main_arg1 m c)
  · exact (h c main_arg2 rfl).trans (end_main_arg2 m c)
  · exact (h c main_arg3 rfl).trans (end_main_arg3 m c)
  · exact (h c main_arg4 rfl).trans (end_main_arg4 m c)
  · exact Idealize.ShloMosaic.sem_eq_zero_of_no_sems (by decide) r.2

end Cert.RFrame
-- ==== Proof.Box.lean ====
/-  The suppression call's boxes, areas and overlaps, entry by entry, along the rows and along the columns. -/
module

public import proofs.«01_k».proof.Proof.Nms
public import Idealize.ShloMosaic.Lib.Pipeline.ValueKit.Tiles

@[expose] public section

set_option maxRecDepth 16384

noncomputable section

namespace Cert.Box

open Idealize.ShloMosaic Idealize.ShloMosaic.TcCoe Idealize.SL.Sem
open Cert.KernelIdeal Cert.KernelIdeal.Gen Cert.K1

/-- The lower edge of a decoded box along an axis: from the proposal's two edges, the centre's shift and the size's
    logarithm, clipped to the image's extent `W`. -/
def lowE (W lo hi d s : EReal) : EReal :=
  min W (max 0 (Ideal.div d (Ideal.ofBits .f32 0x41200000#32) * (hi - lo) + (lo + Ideal.ofBits .f32 0x3F000000#32 * (hi - lo))
    - Ideal.ofBits .f32 0x3F000000#32 * (Ideal.exp (min (Ideal.div s (Ideal.ofBits .f32 0x40A00000#32)) (Ideal.ofBits .f32 0x40845349#32)) * (hi - lo))))

/-- The upper edge of a decoded box along an axis. -/
def highE (W lo hi d s : EReal) : EReal :=
  min W (max 0 (Ideal.div d (Ideal.ofBits .f32 0x41200000#32) * (hi - lo) + (lo + Ideal.ofBits .f32 0x3F000000#32 * (hi - lo))
    + Ideal.ofBits .f32 0x3F000000#32 * (Ideal.exp (min (Ideal.div s (Ideal.ofBits .f32 0x40A00000#32)) (Ideal.ofBits .f32 0x40845349#32)) * (hi - lo))))

/-- A decoded box: its left, upper, right and lower edge, from the proposal's and the four deltas. -/
def dec (p d : Fin 4 → EReal) : Fin 4 → EReal := ![
  lowE (Ideal.ofBits .f32 0x44980000#32) (p 0) (p 2) (d 0) (d 2),
  lowE (Ideal.ofBits .f32 0x44480000#32) (p 1) (p 3) (d 1) (d 3),
  highE (Ideal.ofBits .f32 0x44980000#32) (p 0) (p 2) (d 0) (d 2),
  highE (Ideal.ofBits .f32 0x44480000#32) (p 1) (p 3) (d 1) (d 3)]

/-- A box moved away from those of other classes. -/
def shift (b : Fin 4 → EReal) (c : EReal) : Fin 4 → EReal := fun a => b a + c * Ideal.ofBits .f32 0x457A0000#32

/-- A box's area. -/
def area (b : Fin 4 → EReal) : EReal := (b 2 - b 0) * (b 3 - b 1)

/-- The area two boxes have in common. -/
def inter (a b : Fin 4 → EReal) : EReal :=
  max 0 (min (a 2) (b 2) - max (a 0) (b 0)) * max 0 (min (a 3) (b 3) - max (a 1) (b 1))

/-- The area two boxes have in common, as a part of the area they cover together. -/
def iou (a b : Fin 4 → EReal) : EReal :=
  Ideal.div (inter a b) (area a + area b - inter a b + Ideal.ofBits .f32 0x3089705F#32)

variable (x0 x2 : FVec Ideal S4x1024 .f32) (x1 x3 : FVec Ideal S1024x4 .f32) (x4 : FVec Ideal S2x1024 .f32) (x5 : FVec Ideal S1024x2 .f32)

/-- The left edge of each box the kernel decodes. -/
theorem bx1_apply (j : Fin 1024) : (bx1 (F := Ideal) x0 x2 (ix2 0 j) : EReal)
    = dec (fun a => x0 (ix2 a j)) (fun a => x2 (ix2 a j)) 0 := by
  unfold bx1 k1_pay21 k1_pay9 k1_pay11 k1_pay13 k1_pay15 k1_pay17 k1_pay19 k1_pay9 k1_pay7
  pointwise
  rfl

/-- The left edge of each moved box, laid out along a row. -/
theorem row0 (j : Fin 1024) : (k1_pay27 (F := Ideal) (bx1 x0 x2) (View.ld (Val := Elt Ideal) x4 rM1) (ix2 0 j) : EReal)
    = shift (dec (fun a => x0 (ix2 a j)) (fun a => x2 (ix2 a j))) (x4 (ix2 1 j)) 0 := by
  unfold k1_pay27 k1_pay26
  pointwise
  rw [bx1_apply]
  rfl

/-- The top edge of each box the kernel decodes. -/
theorem by1_apply (j : Fin 1024) : (by1 (F := Ideal) x0 x2 (ix2 0 j) : EReal)
    = dec (fun a => x0 (ix2 a j)) (fun a => x2 (ix2 a j)) 1 := by
  unfold by1 k1_pay22 k1_pay10 k1_pay12 k1_pay14 k1_pay16 k1_pay18 k1_pay20 k1_pay10 k1_pay8
  pointwise
  rfl

/-- The top edge of each moved box, laid out along a row. -/
theorem row1 (j : Fin 1024) : (k1_pay28 (F := Ideal) (by1 x0 x2) (View.ld (Val := Elt Ideal) x4 rM1) (ix2 0 j) : EReal)
    = shift (dec (fun a => x0 (ix2 a j)) (fun a => x2 (ix2 a j))) (x4 (ix2 1 j)) 1 := by
  unfold k1_pay28 k1_pay26
  pointwise
  rw [by1_apply]
  rfl

/-- The right edge of each box the kernel decodes. -/
theorem bx2_apply (j : Fin 1024) : (bx2 (F := Ideal) x0 x2 (ix2 0 j) : EReal)
    = dec (fun a => x0 (ix2 a j)) (fun a => x2 (ix2 a j)) 2 := by
  unfold bx2 k1_pay23 k1_pay9 k1_pay11 k1_pay13 k1_pay15 k1_pay17 k1_pay19 k1_pay9 k1_pay7
  pointwise
  rfl

/-- The right edge of each moved box, laid out along a row. -/
theorem row2 (j : Fin 1024) : (k1_pay29 (F := Ideal) (bx2 x0 x2) (View.ld (Val := Elt Ideal) x4 rM1) (ix2 0 j) : EReal)
    = shift (dec (fun a => x0 (ix2 a j)) (fun a => x2 (ix2 a j))) (x4 (ix2 1 j)) 2 := by
  unfold k1_pay29 k1_pay26
  pointwise
  rw [bx2_apply]
  rfl

/-- The bottom edge of each box the kernel decodes. -/
theorem by2_apply (j : Fin 1024) : (by2 (F := Ideal) x0 x2 (ix2 0 j) : EReal)
    = dec (fun a => x0 (ix2 a j)) (fun a => x2 (ix2 a j)) 3 := by
  unfold by2 k1_pay24 k1_pay10 k1_pay12 k1_pay14 k1_pay16 k1_pay18 k1_pay20 k1_pay10 k1_pay8
  pointwise
  rfl

/-- The bottom edge of each moved box, laid out along a row. -/
theorem row3 (j : Fin 1024) : (k1_pay30 (F := Ideal) (by2 x0 x2) (View.ld (Val := Elt Ideal) x4 rM1) (ix2 0 j) : EReal)
    = shift (dec (fun a => x0 (ix2 a j)) (fun a => x2 (ix2 a j))) (x4 (ix2 1 j)) 3 := by
  unfold k1_pay30 k1_pay26
  pointwise
  rw [by2_apply]
  rfl

/-- The area of each moved box, laid out along a row. -/
theorem row4 (j : Fin 1024) : (k1_pay31 (F := Ideal) (bx1 x0 x2) (by1 x0 x2) (bx2 x0 x2) (by2 x0 x2) (View.ld (Val := Elt Ideal) x4 rM1) (ix2 0 j) : EReal)
    = area (shift (dec (fun a => x0 (ix2 a j)) (fun a => x2 (ix2 a j))) (x4 (ix2 1 j))) := by
  unfold k1_pay31
  pointwise
  rw [row0, row1, row2, row3]
  rfl

/-- The left edge of each box, laid out along a column, before it is moved. -/
theorem col0 (i : Fin 1024) : (k1_pay45 (F := Ideal) (k1_pay34 (View.ld (Val := Elt Ideal) x3 rC0)) (k1_pay36 (View.ld (Val := Elt Ideal) x3 rC2)) (k1_pay38 (View.ld (Val := Elt Ideal) x1 rC0) (View.ld (Val := Elt Ideal) x1 rC2)) (k1_pay40 (View.ld (Val := Elt Ideal) x1 rC0) (View.ld (Val := Elt Ideal) x1 rC2)) (ix2 i 0) : EReal)
    = dec (fun a => x1 (ix2 i a)) (fun a => x3 (ix2 i a)) 0 := by
  unfold k1_pay45 k1_pay41 k1_pay43 k1_pay34 k1_pay36 k1_pay40 k1_pay38 k1_pay32
  pointwise
  rfl

/-- The top edge of each box, laid out along a column, before it is moved. -/
theorem col1 (i : Fin 1024) : (k1_pay46 (F := Ideal) (k1_pay33 (View.ld (Val := Elt Ideal) x1 rC1)) (k1_pay35 (View.ld (Val := Elt Ideal) x3 rC1)) (k1_pay37 (View.ld (Val := Elt Ideal) x3 rC3)) (k1_pay39 (View.ld (Val := Elt Ideal) x1 rC1) (View.ld (Val := Elt Ideal) x1 rC3)) (ix2 i 0) : EReal)
    = dec (fun a => x1 (ix2 i a)) (fun a => x3 (ix2 i a)) 1 := by
  unfold k1_pay46 k1_pay42 k1_pay44 k1_pay35 k1_pay37 k1_pay39 k1_pay33
  pointwise
  rfl

/-- The right edge of each box, laid out along a column, before it is moved. -/
theorem col2 (i : Fin 1024) : (k1_pay47 (F := Ideal) (k1_pay34 (View.ld (Val := Elt Ideal) x3 rC0)) (k1_pay36 (View.ld (Val := Elt Ideal) x3 rC2)) (k1_pay38 (View.ld (Val := Elt Ideal) x1 rC0) (View.ld (Val := Elt Ideal) x1 rC2)) (k1_pay40 (View.ld (Val := Elt Ideal) x1 rC0) (View.ld (Val := Elt Ideal) x1 rC2)) (ix2 i 0) : EReal)
    = dec (fun a => x1 (ix2 i a)) (fun a => x3 (ix2 i a)) 2 := by
  unfold k1_pay47 k1_pay41 k1_pay43 k1_pay34 k1_pay36 k1_pay40 k1_pay38 k1_pay32
  pointwise
  rfl

/-- The bottom edge of each box, laid out along a column, as the overlap's own text clamps it. -/
theorem col3 (i : Fin 1024) : min (Ideal.ofBits .f32 1145569280#32)
      (max 0 ((k1_pay42 (F := Ideal) (k1_pay33 (View.ld (Val := Elt Ideal) x1 rC1)) (k1_pay35 (View.ld (Val := Elt Ideal) x3 rC1)) (k1_pay39 (View.ld (Val := Elt Ideal) x1 rC1) (View.ld (Val := Elt Ideal) x1 rC3)) (ix2 i 0) : EReal) +
        Ideal.ofBits .f32 1056964608#32 *
          (k1_pay44 (F := Ideal) (k1_pay37 (View.ld (Val := Elt Ideal) x3 rC3)) (k1_pay39 (View.ld (Val := Elt Ideal) x1 rC1) (View.ld (Val := Elt Ideal) x1 rC3)) (ix2 i 0) : EReal)))
    = dec (fun a => x1 (ix2 i a)) (fun a => x3 (ix2 i a)) 3 := by
  unfold k1_pay42 k1_pay44 k1_pay35 k1_pay37 k1_pay39 k1_pay33
  pointwise
  rfl

/-- Candidate `i` overlaps the later candidate `j` by more than one half. -/
theorem sup_apply (i j : Fin 1024) : supB (F := Ideal) x0 x1 x2 x3 x4 x5 (ix2 i j) = 1#1 ↔
    (i < j ∧ Ideal.ofBits .f32 0x3F000000#32 < iou (shift (dec (fun a => x1 (ix2 i a)) (fun a => x3 (ix2 i a))) (x5 (ix2 i 1)))
        (shift (dec (fun a => x0 (ix2 a j)) (fun a => x2 (ix2 a j))) (x4 (ix2 1 j)))) := by
  unfold supB k1_pay48
  pointwise
  simp only [row0, row1, row2, row3, row4, col0, col1, col2, col3]
  rw [Nms.cmpi_slt _ _ (by omega) (by omega), max_comm _ (0 : EReal), max_comm _ (0 : EReal)]
  show IntOp.andi (BitVec.ofBool (decide (Ideal.ofBits .f32 0x3F000000#32 < iou (shift (dec (fun a => x1 (ix2 i a)) (fun a => x3 (ix2 i a))) (x5 (ix2 i 1)))
        (shift (dec (fun a => x0 (ix2 a j)) (fun a => x2 (ix2 a j))) (x4 (ix2 1 j)))))) (BitVec.ofBool (decide (i.val < j.val))) = 1#1 ↔ _
  by_cases h1 : i < j
  · have h1' : i.val < j.val := h1
    by_cases h2 : Ideal.ofBits .f32 0x3F000000#32 < iou (shift (dec (fun a => x1 (ix2 i a)) (fun a => x3 (ix2 i a))) (x5 (ix2 i 1)))
        (shift (dec (fun a => x0 (ix2 a j)) (fun a => x2 (ix2 a j))) (x4 (ix2 1 j)))
    · rw [decide_eq_true h1', decide_eq_true h2]
      exact ⟨fun _ => ⟨h1, h2⟩, fun _ => by decide⟩
    · rw [decide_eq_false h2]
      exact ⟨fun h => absurd h (by rw [decide_eq_true h1']; decide), fun h => absurd h.2 h2⟩
  · have h1' : ¬ i.val < j.val := h1
    rw [decide_eq_false h1']
    refine ⟨fun h => absurd h ?_, fun h => absurd h.1 h1⟩
    rw [Nms.and_zero _ _ (by decide)]
    decide

/-- A score counts only above one twentieth. -/
def thr (v : EReal) : EReal := if Ideal.ofBits .f32 0x3D4CCCCD#32 < v then v else Ideal.ofBits .f32 0xC61C4000#32

/-- The scores the loop starts from. -/
theorem thr_apply (j : Fin 1024) : (k1_pay2 (F := Ideal) (sc x4) (ix2 0 j) : EReal) = thr (x4 (ix2 0 j)) := by
  unfold k1_pay2 sc k1_pay25 thr
  pointwise

open Idealize.ShloMosaic.Pipeline in
/-- The scores the call leaves: those of the candidates kept. -/
theorem outF_apply (k : FVec Ideal S1x1024 .f32) (j : Fin 1024) : (outF (F := Ideal) x4 k (ix2 0 j) : EReal)
    = if (0 : EReal) < (k (ix2 0 j) : EReal) then thr (x4 (ix2 0 j)) else Ideal.ofBits .f32 0xC61C4000#32 := by
  have h : outF (F := Ideal) x4 k (ix2 0 j) = k1_pay4 (F := Ideal) (sc x4) k (ix2 0 j) := by
    unfold outF
    refine View.canon_eq_of_allAt _ _ _ (coverF _ _) (View.allAt_cons_unit _ _ _ _ _ ?_ (View.allAt_nil _ _))
    intro x hx
    refine congrArg _ ((eq_ix2 x).trans ?_)
    congr 1
    · exact Fin.ext (by have := (x 0).isLt; change (x 0).val < 1 at this; change (x 0).val = 0; omega)
    · exact Fin.ext (by have := hx 1; change j.val = 0 + (x 1).val at this; omega)
  refine h.trans ?_
  unfold k1_pay4
  pointwise
  rw [thr_apply]

open Idealize.ShloMosaic.Pipeline in
/-- A row stored at `k`, where it is row `a`, is read back as that row. -/
theorem edge (x : FVec Ideal S1x1024 .f32) (k a : Fin 4) (j : Fin 1024) (v : EReal) (hv : a = k → (x (ix2 0 j) : EReal) = v) :
    View.TileAt (Val := Elt Ideal) (S := S4x1024) (e := .f32) (ix2 a j) ![k.val, 0] S1x1024.size x v := by
  intro y hy
  have h0 := hy 0
  have h1 := hy 1
  change a.val = k.val + (y 0).val at h0
  change j.val = 0 + (y 1).val at h1
  have hl := (y 0).isLt
  change (y 0).val < 1 at hl
  have e : y = ix2 0 j := by
    refine (eq_ix2 y).trans ?_
    congr 1
    · exact Fin.ext (by change (y 0).val = 0; omega)
    · exact Fin.ext (by omega)
  subst e
  exact hv (Fin.ext (by omega))

open Idealize.ShloMosaic.Pipeline in
/-- The boxes the call leaves: the decoded ones. -/
theorem outB_apply (a : Fin 4) (j : Fin 1024) : (outB (F := Ideal) x0 x2 (ix2 a j) : EReal)
    = dec (fun a => x0 (ix2 a j)) (fun a => x2 (ix2 a j)) a := by
  unfold outB
  refine View.canon_eq_of_allAt _ _ _ (coverB _ _ _ _ _) (View.allAt_cons_unit _ _ _ _ _ (edge _ 3 a j _ ?_) (View.allAt_cons_unit _ _ _ _ _ (edge _ 2 a j _ ?_) (View.allAt_cons_unit _ _ _ _ _ (edge _ 1 a j _ ?_) (View.allAt_cons_unit _ _ _ _ _ (edge _ 0 a j _ ?_) (View.allAt_nil _ _)))))
  all_goals rintro rfl
  · exact by2_apply x0 x2 j
  · exact bx2_apply x0 x2 j
  · exact by1_apply x0 x2 j
  · exact bx1_apply x0 x2 j

end Cert.Box
-- ==== Proof.KOut.lean ====
/-  What the two calls leave in their output arrays: the softmax of every row of the scores; and of the suppression
    call's inputs, the scores of the candidates kept and the decoded boxes. -/
module

public import proofs.«01_k».proof.Proof.KFrame
public import proofs.«01_k».proof.Proof.Soft
public import proofs.«01_k».proof.Proof.Box

@[expose] public section

set_option maxRecDepth 16384

noncomputable section

namespace Cert.KOut

open Idealize.ShloMosaic Idealize.ShloMosaic.TcCoe Idealize.SL.Sem
open Cert.KernelIdeal Cert.KernelIdeal.Gen Cert.K1 Cert.KRun Cert.KFrame
open Cert.Soft (G soft atS)

variable (m : (ℓ : Loc nD τ sig) → Buf (Elt Ideal) ℓ) (c : Dev nD)

/-- What the scores' body stores is the softmax of its block without the last class. -/
theorem out0_eq (P : Vec Ideal S2000x81 .f32) : out0 (F := Ideal) P = G (N := 2000) P := by
  have h := Soft.block_eq P
  have h' := Soft.ld_whole P
  unfold out0
  exact (congrArg (fun Q : Vec Ideal S2000x81 .f32 => (View.canon [⟨r0_1, k0_pay1 (F := Ideal) Q⟩] : Vec Ideal S2000x80 .f32)) h').trans h

/-- Block `t` of the logits is the `t`-th block of rows. -/
theorem idx_facts : ∀ t : Fin (cfg0 (F := Ideal)).N, win0_0.index t (0 : Fin 2) = t.val ∧ win0_0.index t (1 : Fin 2) = 0
    ∧ win0_1.index t (0 : Fin 2) = t.val ∧ win0_1.index t (1 : Fin 2) = 0 ∧ ((cfg0 (F := Ideal)).win 1).flush t = true :=
  (by decide +kernel : ∀ t : Fin grid0.N, _)

/-- What each trip of the scores' call writes back is the softmax of that block of rows. -/
theorem flushed_eq (V : Dev nD → Valuation τ sig (Elt Ideal)) (t : Fin (cfg0 (F := Ideal)).N) :
    (dat0 V c).flushed 1 t = (((cfg0 (F := Ideal)).win 1).blk t).view.read (Elt Ideal) (G (N := 20000) (V c (Proc.devRef .tc main_arg0))) := by
  refine Eq.trans (b := ((cfg0 (F := Ideal)).win 1).cut (grid0.coords t) (out0 (F := Ideal) (iblk0 V c 0 t))) ?_ ?_
  · show ((cfg0 (F := Ideal)).win 1).cut (grid0.coords t) ((dat0 V c).after 1 t) = _
    rw [after0_1]
  rw [out0_eq]
  obtain ⟨e0, e1, e2, e3, -⟩ := idx_facts t
  funext y
  show soft _ _ = soft _ _
  have hk : ∀ k : Fin 81, iblk0 V c 0 t (atS (N := 2000) (y 0) k)
      = V c (Proc.devRef .tc main_arg0) (atS (N := 20000) ((((cfg0 (F := Ideal)).win 1).blk t).view.emb y 0) k) := by
    intro k
    show V c (Proc.devRef .tc main_arg0) ((((cfg0 (F := Ideal)).win 0).blk t).view.emb (atS (N := 2000) (y 0) k)) = _
    refine congrArg (V c (Proc.devRef .tc main_arg0)) (funext fun a => Fin.ext ?_)
    match a with
    | ⟨0, _⟩ => show win0_0.index t (0 : Fin 2) * 2000 + 1 * (y 0).val = win0_1.index t (0 : Fin 2) * 2000 + 1 * (y 0).val; omega
    | ⟨1, _⟩ => show win0_0.index t (1 : Fin 2) * 81 + 1 * k.val = k.val; omega
  refine congrArg₂ soft (funext hk) (Fin.ext ?_)
  show (y 1).val = win0_1.index t (1 : Fin 2) * 80 + 1 * (y 1).val
  omega

/-- The blocks written back fill the whole array of scores. -/
theorem cover (i : S20000x80.Idx) : ∃ t : Fin (cfg0 (F := Ideal)).N, ((cfg0 (F := Ideal)).win 1).flush t = true ∧ i ∈ (((cfg0 (F := Ideal)).win 1).blk t).view.set := by
  have hi0 : (i 0).val < 20000 := (i 0).isLt
  have hi1 : (i 1).val < 80 := (i 1).isLt
  have hN : (i 0).val / 2000 < (cfg0 (F := Ideal)).N := by show _ < 10; omega
  obtain ⟨-, -, e2, e3, e4⟩ := idx_facts ⟨(i 0).val / 2000, hN⟩
  refine ⟨⟨(i 0).val / 2000, hN⟩, e4, ?_⟩
  refine Finset.mem_map.mpr ⟨(fun a => match a with | ⟨0, _⟩ => ⟨(i 0).val % 2000, Nat.mod_lt _ (by decide)⟩ | ⟨1, _⟩ => ⟨(i 1).val, hi1⟩ : S2000x80.Idx), Finset.mem_univ _, ?_⟩
  refine funext fun a => Fin.ext ?_
  match a with
  | ⟨0, _⟩ =>
    show win0_1.index ⟨(i 0).val / 2000, hN⟩ (0 : Fin 2) * 2000 + 1 * ((i 0).val % 2000) = (i 0).val
    rw [e2]; show (i 0).val / 2000 * 2000 + 1 * ((i 0).val % 2000) = (i 0).val; omega
  | ⟨1, _⟩ =>
    show win0_1.index ⟨(i 0).val / 2000, hN⟩ (1 : Fin 2) * 80 + 1 * (i 1).val = (i 1).val
    omega

/-- The scores call leaves the softmax of the rows. -/
theorem scores_eq (V : Dev nD → Valuation τ sig (Elt Ideal)) :
    (dat0 V c).arrAt 1 (cfg0 (F := Ideal)).N = G (N := 20000) (V c (Proc.devRef .tc main_arg0)) :=
  (dat0 V c).arrAt_eq_of_cover 1 _ (fun t _ => flushed_eq c V t) cover

/-! The suppression call's windows are whole arrays. -/

variable (V : Dev nD → Valuation τ sig (Elt Ideal)) (t : Fin (cfg1 (F := Ideal)).N)

/-- Operand 0 of the suppression call is read whole. -/
theorem in0 : iblk1 V c 0 t = (V c (Proc.devRef .tc main_v34) : Vec Ideal S4x1024 .f32) := by
  funext y
  refine congrArg (V c (Proc.devRef .tc main_v34)) (funext fun a => Fin.ext ?_)
  match a with
  | ⟨0, _⟩ => show 0 * 4 + 1 * (y 0).val = (y 0).val; omega
  | ⟨1, _⟩ => show 0 * 1024 + 1 * (y 1).val = (y 1).val; omega

/-- Operand 1 of the suppression call is read whole. -/
theorem in1 : iblk1 V c 1 t = (V c (Proc.devRef .tc main_v27) : Vec Ideal S1024x4 .f32) := by
  funext y
  refine congrArg (V c (Proc.devRef .tc main_v27)) (funext fun a => Fin.ext ?_)
  match a with
  | ⟨0, _⟩ => show 0 * 1024 + 1 * (y 0).val = (y 0).val; omega
  | ⟨1, _⟩ => show 0 * 4 + 1 * (y 1).val = (y 1).val; omega

/-- Operand 2 of the suppression call is read whole. -/
theorem in2 : iblk1 V c 2 t = (V c (Proc.devRef .tc main_v35) : Vec Ideal S4x1024 .f32) := by
  funext y
  refine congrArg (V c (Proc.devRef .tc main_v35)) (funext fun a => Fin.ext ?_)
  match a with
  | ⟨0, _⟩ => show 0 * 4 + 1 * (y 0).val = (y 0).val; omega
  | ⟨1, _⟩ => show 0 * 1024 + 1 * (y 1).val = (y 1).val; omega

/-- Operand 3 of the suppression call is read whole. -/
theorem in3 : iblk1 V c 3 t = (V c (Proc.devRef .tc main_v28) : Vec Ideal S1024x4 .f32) := by
  funext y
  refine congrArg (V c (Proc.devRef .tc main_v28)) (funext fun a => Fin.ext ?_)
  match a with
  | ⟨0, _⟩ => show 0 * 1024 + 1 * (y 0).val = (y 0).val; omega
  | ⟨1, _⟩ => show 0 * 4 + 1 * (y 1).val = (y 1).val; omega

/-- Operand 4 of the suppression call is read whole. -/
theorem in4 : iblk1 V c 4 t = (V c (Proc.devRef .tc main_v33) : Vec Ideal S2x1024 .f32) := by
  funext y
  refine congrArg (V c (Proc.devRef .tc main_v33)) (funext fun a => Fin.ext ?_)
  match a with
  | ⟨0, _⟩ => show 0 * 2 + 1 * (y 0).val = (y 0).val; omega
  | ⟨1, _⟩ => show 0 * 1024 + 1 * (y 1).val = (y 1).val; omega

/-- Operand 5 of the suppression call is read whole. -/
theorem in5 : iblk1 V c 5 t = (V c (Proc.devRef .tc main_v36) : Vec Ideal S1024x2 .f32) := by
  funext y
  refine congrArg (V c (Proc.devRef .tc main_v36)) (funext fun a => Fin.ext ?_)
  match a with
  | ⟨0, _⟩ => show 0 * 1024 + 1 * (y 0).val = (y 0).val; omega
  | ⟨1, _⟩ => show 0 * 2 + 1 * (y 1).val = (y 1).val; omega

/-- The scores' one block is the whole array. -/
theorem whole6 (X : Vec Ideal S1x1024 .f32) : ((cfg1 (F := Ideal)).win 6).cut (grid1.coords t) X
    = (((cfg1 (F := Ideal)).win 6).blk t).view.read (Elt Ideal) X := by
  funext y
  refine congrArg X (funext fun a => Fin.ext ?_)
  match a with
  | ⟨0, _⟩ => show (y 0).val = 0 * 1 + 1 * (y 0).val; omega
  | ⟨1, _⟩ => show (y 1).val = 0 * 1024 + 1 * (y 1).val; omega

/-- The boxes' one block is the whole array. -/
theorem whole7 (X : Vec Ideal S4x1024 .f32) : ((cfg1 (F := Ideal)).win 7).cut (grid1.coords t) X
    = (((cfg1 (F := Ideal)).win 7).blk t).view.read (Elt Ideal) X := by
  funext y
  refine congrArg X (funext fun a => Fin.ext ?_)
  match a with
  | ⟨0, _⟩ => show (y 0).val = 0 * 4 + 1 * (y 0).val; omega
  | ⟨1, _⟩ => show (y 1).val = 0 * 1024 + 1 * (y 1).val; omega

variable (kk : Dev nD → FVec Ideal S1x1024 .f32)

/-- The suppression call's array of scores at its end. -/
theorem fs_eq : (dat1 V kk c).arrAt 6 (cfg1 (F := Ideal)).N = outF (F := Ideal) (V c (Proc.devRef .tc main_v33)) (kk c) := by
  refine (dat1 V kk c).arrAt_eq_of_cover 6 _ (fun t _ => ?_) (fun i => ⟨⟨0, by decide⟩, by decide +kernel, ?_⟩)
  · refine Eq.trans (b := ((cfg1 (F := Ideal)).win 6).cut (grid1.coords t) (outF (F := Ideal) (iblk1 V c 4 t) (kk c))) ?_ ?_
    · show ((cfg1 (F := Ideal)).win 6).cut (grid1.coords t) ((dat1 V kk c).after 6 t) = _
      rw [after1_6]
    rw [in4]
    exact whole6 t _
  · refine Finset.mem_map.mpr ⟨i, Finset.mem_univ _, ?_⟩
    refine funext fun a => Fin.ext ?_
    match a with
    | ⟨0, _⟩ => show 0 * 1 + 1 * (i 0).val = (i 0).val; omega
    | ⟨1, _⟩ => show 0 * 1024 + 1 * (i 1).val = (i 1).val; omega

/-- The suppression call's array of boxes at its end. -/
theorem boxes_eq : (dat1 V kk c).arrAt 7 (cfg1 (F := Ideal)).N = outB (F := Ideal) (V c (Proc.devRef .tc main_v34)) (V c (Proc.devRef .tc main_v35)) := by
  refine (dat1 V kk c).arrAt_eq_of_cover 7 _ (fun t _ => ?_) (fun i => ⟨⟨0, by decide⟩, by decide +kernel, ?_⟩)
  · refine Eq.trans (b := ((cfg1 (F := Ideal)).win 7).cut (grid1.coords t) (outB (F := Ideal) (iblk1 V c 0 t) (iblk1 V c 2 t))) ?_ ?_
    · show ((cfg1 (F := Ideal)).win 7).cut (grid1.coords t) ((dat1 V kk c).after 7 t) = _
      rw [after1_7]
    rw [in0, in2]
    exact whole7 t _
  · refine Finset.mem_map.mpr ⟨i, Finset.mem_univ _, ?_⟩
    refine funext fun a => Fin.ext ?_
    match a with
    | ⟨0, _⟩ => show 0 * 4 + 1 * (i 0).val = (i 0).val; omega
    | ⟨1, _⟩ => show 0 * 1024 + 1 * (i 1).val = (i 1).val; omega

end Cert.KOut
-- ==== Proof.Gath.lean ====
/-  The host's gathers read entry by entry: a row of the proposals, and a row and class of the deltas. -/
module

public import proofs.«01_k».proof.Proof.Gen.KernelIdeal.Launch
public import Idealize.ShloMosaic.Lib.Pointwise

@[expose] public section

set_option maxRecDepth 16384

noncomputable section

namespace Cert.Gath

open Idealize.ShloMosaic
open Cert.KernelIdeal Cert.KernelIdeal.Gen

/-- A gather of whole rows, read at one entry: the row is the start index, read signed and clamped. -/
theorem rows {α : Type} (x : S20000x4.Idx → α) (idx : IVec S1000x1 32) (k : Fin 1000) (a : Fin 4) :
    Host.gather gather_S20000x4_S1000x1_S1000x4_1_0_n_n_0_1_14 x idx (ix2 k a)
      = x (ix2 ⟨min (idx (ix2 k 0)).toInt.toNat 19999, by omega⟩ a) := by
  unfold Host.gather
  refine congrArg x (funext fun b => Fin.ext ?_)
  match b with
  | ⟨0, _⟩ =>
    show GatherDims.start _ _ idx 0 + GatherDims.batchCoord _ _ 0 + GatherDims.offCoord _ _ 0 = _
    rw [GatherDims.batchCoord_eq_zero _ _ _ (by decide), GatherDims.offCoord_eq_zero _ _ _ (by decide)]
    unfold GatherDims.start
    rw [dif_pos (by decide)]
    have hsi : (gather_S20000x4_S1000x1_S1000x4_1_0_n_n_0_1_14).siIdx (ix2 k a) ⟨List.idxOf 0 (gather_S20000x4_S1000x1_S1000x4_1_0_n_n_0_1_14).startIndexMap, by decide⟩ = ix2 k 0 := by
      funext b'
      match b' with
      | ⟨0, _⟩ => rfl
      | ⟨1, _⟩ => rfl
    rw [hsi]
    rfl
  | ⟨1, _⟩ =>
    show GatherDims.start _ _ idx 1 + GatherDims.batchCoord _ _ 1 + GatherDims.offCoord _ _ 1 = _
    rw [GatherDims.batchCoord_eq_zero _ _ _ (by decide)]
    unfold GatherDims.start
    rw [dif_neg (by decide)]
    show 0 + 0 + _ = a.val
    rw [Nat.zero_add]
    rfl

/-- A gather at pairs of a row and a column, read at one entry: both are read signed and clamped. -/
theorem pairs {α : Type} (x : S20000x80x4.Idx → α) (idx : IVec S1000x2 32) (k : Fin 1000) (a : Fin 4) :
    Host.gather gather_S20000x80x4_S1000x2_S1000x4_1_01_n_n_01_1_114 x idx (ix2 k a)
      = x (ix3 ⟨min (idx (ix2 k 0)).toInt.toNat 19999, by omega⟩ ⟨min (idx (ix2 k 1)).toInt.toNat 79, by omega⟩ a) := by
  unfold Host.gather
  refine congrArg x (funext fun b => Fin.ext ?_)
  match b with
  | ⟨0, _⟩ =>
    show GatherDims.start _ _ idx 0 + GatherDims.batchCoord _ _ 0 + GatherDims.offCoord _ _ 0 = _
    rw [GatherDims.batchCoord_eq_zero _ _ _ (by decide), GatherDims.offCoord_eq_zero _ _ _ (by decide)]
    unfold GatherDims.start
    rw [dif_pos (by decide)]
    have hsi : (gather_S20000x80x4_S1000x2_S1000x4_1_01_n_n_01_1_114).siIdx (ix2 k a) ⟨List.idxOf 0 (gather_S20000x80x4_S1000x2_S1000x4_1_01_n_n_01_1_114).startIndexMap, by decide⟩ = ix2 k 0 := by
      funext b'
      match b' with
      | ⟨0, _⟩ => rfl
      | ⟨1, _⟩ => rfl
    rw [hsi]
    rfl
  | ⟨1, _⟩ =>
    show GatherDims.start _ _ idx 1 + GatherDims.batchCoord _ _ 1 + GatherDims.offCoord _ _ 1 = _
    rw [GatherDims.batchCoord_eq_zero _ _ _ (by decide), GatherDims.offCoord_eq_zero _ _ _ (by decide)]
    unfold GatherDims.start
    rw [dif_pos (by decide)]
    have hsi : (gather_S20000x80x4_S1000x2_S1000x4_1_01_n_n_01_1_114).siIdx (ix2 k a) ⟨List.idxOf 1 (gather_S20000x80x4_S1000x2_S1000x4_1_01_n_n_01_1_114).startIndexMap, by decide⟩ = ix2 k 1 := by
      funext b'
      match b' with
      | ⟨0, _⟩ => rfl
      | ⟨1, _⟩ => rfl
    rw [hsi]
    rfl
  | ⟨2, _⟩ =>
    show GatherDims.start _ _ idx 2 + GatherDims.batchCoord _ _ 2 + GatherDims.offCoord _ _ 2 = _
    rw [GatherDims.batchCoord_eq_zero _ _ _ (by decide)]
    unfold GatherDims.start
    rw [dif_neg (by decide)]
    show 0 + 0 + _ = a.val
    rw [Nat.zero_add]
    rfl

end Cert.Gath
-- ==== Proof.KHost.lean ====
/-  The host's part between the two calls, entry by entry: the candidates' proposals, deltas, scores and classes, padded
    to 1024. -/
module

public import proofs.«01_k».proof.Proof.Gath
public import proofs.«01_k».proof.Proof.Gen.KernelIdeal.Regions
public import Idealize.ShloMosaic.PureOps.Ideal
public import Idealize.ShloMosaic.Lib.Pointwise

@[expose] public section

set_option maxRecDepth 16384

noncomputable section

namespace Cert.KHost

open Idealize.ShloMosaic Idealize.ShloMosaic.TcCoe Idealize.SL.Sem Idealize.ShloMosaic.StableHlo
open Cert.KernelIdeal Cert.KernelIdeal.Gen

/-- A buffer of floats, as a function into the extended reals. -/
abbrev fv (s : Shape) (x : FVec Ideal s .f32) : s.Idx → EReal := x

variable (V : Valuation τ sig (Elt Ideal))

/-- The row an index array names for candidate `k`. -/
abbrev row (idx : IVec S1000x2 32) (k : Fin 1000) : Fin 20000 := ⟨min (idx (ix2 k 0)).toInt.toNat 19999, by omega⟩
/-- The class an index array names for candidate `k`. -/
abbrev cla (idx : IVec S1000x2 32) (k : Fin 1000) : Fin 80 := ⟨min (idx (ix2 k 1)).toInt.toNat 79, by omega⟩

/-- A candidate's place among the padded ones. -/
abbrev up (k : Fin 1000) : Fin 1024 := k.castLE (by decide)

/-- The row of a candidate read from two index arrays that agree there. -/
theorem row_congr (x : IVec S1000x1 32) (y : IVec S1000x2 32) (k : Fin 1000) (h : x (ix2 k 0) = y (ix2 k 0)) :
    (⟨min (x (ix2 k 0)).toInt.toNat 19999, by omega⟩ : Fin 20000) = row y k := by
  rw [Fin.mk.injEq, h]

/-- The kernel's chosen proposals: candidate `k` has the proposal at its own row. -/
theorem h10 (k : Fin 1000) (a : Fin 4) :
    fv S1000x4 (after hostOps1_4 V (Proc.devRef .tc main_v10)) (ix2 k a)
      = fv S20000x4 (V (Proc.devRef .tc main_arg2)) (ix2 (row (after hostOps1_4 V (Proc.devRef .tc main_v24)) k) a) := by
  after_results
  refine (Gath.rows _ _ k a).trans ?_
  refine congrArg (fun r => fv S20000x4 (V (Proc.devRef .tc main_arg2)) (ix2 r a)) (row_congr _ _ k ?_)
  pointwise

/-- The kernel's chosen box differences: candidate `k` has those at its own row and class. -/
theorem h25 (k : Fin 1000) (a : Fin 4) :
    fv S1000x4 (after hostOps1_4 V (Proc.devRef .tc main_v25)) (ix2 k a)
      = shapeCast S20000x80x4 (fv S20000x320 (V (Proc.devRef .tc main_arg1))) shapeCasts_S20000x320_S20000x80x4
          (ix3 (row (after hostOps1_4 V (Proc.devRef .tc main_v24)) k) (cla (after hostOps1_4 V (Proc.devRef .tc main_v24)) k) a) := by
  after_results
  exact Gath.pairs _ _ k a

/-- The kernel's classes of the chosen candidates, as floats. -/
theorem h26 (k : Fin 1000) :
    fv S1000 (after hostOps1_4 V (Proc.devRef .tc main_v26)) (ix1 k)
      = FloatOps.sitofp (F := Ideal) .f32 ((V (Proc.devRef .tc main_v3) : IVec S1000 32) (ix1 k)) := by
  after_results
  rfl

/-- Padding at the end of the first axis leaves the first 1000 rows. -/
theorem pad_rows (x : S1000x4.Idx → EReal) (v : S_.Idx → EReal) (k : Fin 1000) (a : Fin 4) :
    pad S1024x4 ![0, 0] ![24, 0] ![0, 0] x v pads_S1000x4_S1024x4_0240_000 h_S_ (ix2 (up k) a) = x (ix2 k a) := by
  have hk := k.isLt
  have ha := a.isLt
  unfold pad
  rw [dif_pos]
  · refine congrArg x (funext fun b => Fin.ext ?_)
    match b with
    | ⟨0, _⟩ => show (k.val - 0) / (0 + 1) = k.val; omega
    | ⟨1, _⟩ => show (a.val - 0) / (0 + 1) = a.val; omega
  · intro b
    match b with
    | ⟨0, _⟩ => exact ⟨Nat.zero_le _, Nat.mod_one _, by show (k.val - 0) / (0 + 1) < 1000; omega⟩
    | ⟨1, _⟩ => exact ⟨Nat.zero_le _, Nat.mod_one _, by show (a.val - 0) / (0 + 1) < 4; omega⟩

/-- Padding at the end leaves the first 1000 entries. -/
theorem pad_low (x : S1000.Idx → EReal) (v : S_.Idx → EReal) (k : Fin 1000) :
    pad S1024 ![0] ![24] ![0] x v pads_S1000_S1024_0240 h_S_ (ix1 (up k)) = x (ix1 k) := by
  have hk := k.isLt
  unfold pad
  rw [dif_pos]
  · refine congrArg x (funext fun b => Fin.ext ?_)
    match b with
    | ⟨0, _⟩ => show (k.val - 0) / (0 + 1) = k.val; omega
  · intro b
    match b with
    | ⟨0, _⟩ => exact ⟨Nat.zero_le _, Nat.mod_one _, by show (k.val - 0) / (0 + 1) < 1000; omega⟩

/-- Past the first 1000 entries stands the padding. -/
theorem pad_high (x : S1000.Idx → EReal) (v : S_.Idx → EReal) (e : EReal) (hv : ∀ i, v i = e) (j : Fin 1024) (h : 1000 ≤ j.val) :
    pad S1024 ![0] ![24] ![0] x v pads_S1000_S1024_0240 h_S_ (ix1 j) = e := by
  unfold pad
  rw [dif_neg]
  · exact hv _
  · intro hh
    have h2 : (j.val - 0) / (0 + 1) < 1000 := (hh (0 : Fin 1)).2.2
    omega

/-- Padding leaves the first thousand proposals alone. -/
theorem h27 (k : Fin 1000) (a : Fin 4) :
    fv S1024x4 (after hostOps1_5 V (Proc.devRef .tc main_v27)) (ix2 (up k) a) = fv S1000x4 (V (Proc.devRef .tc main_v10)) (ix2 k a) := by
  after_results
  exact pad_rows _ _ k a

/-- Padding leaves the first thousand box differences alone. -/
theorem h28 (k : Fin 1000) (a : Fin 4) :
    fv S1024x4 (after hostOps1_7 V (Proc.devRef .tc main_v28)) (ix2 (up k) a) = fv S1000x4 (V (Proc.devRef .tc main_v25)) (ix2 k a) := by
  after_results
  exact pad_rows _ _ k a

/-- Padding leaves the first thousand classes alone. -/
theorem h30 (k : Fin 1000) :
    fv S1024 (after hostOps1_11 V (Proc.devRef .tc main_v30)) (ix1 (up k)) = fv S1000 (V (Proc.devRef .tc main_v26)) (ix1 k) := by
  after_results
  exact pad_low _ _ k

/-- Padding leaves the first thousand scores alone. -/
theorem h29 (k : Fin 1000) :
    fv S1024 (after hostOps1_9 V (Proc.devRef .tc main_v29)) (ix1 (up k)) = fv S1000 (V (Proc.devRef .tc main_values)) (ix1 k) := by
  after_results
  exact pad_low _ _ k

/-- The padded scores hold the mark of a lost candidate. -/
theorem h29' (hc : V (Proc.devRef .tc main_cst) = constant (F := Ideal) S_ .f32 0xC61C4000#32) (j : Fin 1024) (h : 1000 ≤ j.val) :
    fv S1024 (after hostOps1_9 V (Proc.devRef .tc main_v29)) (ix1 j) = Ideal.ofBits .f32 0xC61C4000#32 := by
  after_results
  rw [hc]
  exact pad_high _ _ _ (fun _ => rfl) j h

/-- Row 0 of the suppression call's fifth operand holds the scores. -/
theorem h33_0 (j : Fin 1024) :
    fv S2x1024 (after hostOps1_12 V (Proc.devRef .tc main_v33)) (ix2 0 j) = fv S1024 (V (Proc.devRef .tc main_v29)) (ix1 j) := by
  after_results
  unfold fv
  pointwise

/-- Row 1 of the suppression call's fifth operand holds the classes. -/
theorem h33_1 (j : Fin 1024) :
    fv S2x1024 (after hostOps1_12 V (Proc.devRef .tc main_v33)) (ix2 1 j) = fv S1024 (V (Proc.devRef .tc main_v30)) (ix1 j) := by
  after_results
  unfold fv
  pointwise

/-- Column 1 of the suppression call's last operand holds the classes. -/
theorem h36 (i : Fin 1024) :
    fv S1024x2 (after hostOps1_12 V (Proc.devRef .tc main_v36)) (ix2 i 1) = fv S1024 (V (Proc.devRef .tc main_v30)) (ix1 i) := by
  after_results
  unfold fv
  pointwise

/-- The suppression call's first operand is the proposals turned on their side. -/
theorem h34 (a : Fin 4) (j : Fin 1024) :
    fv S4x1024 (after hostOps1_12 V (Proc.devRef .tc main_v34)) (ix2 a j) = fv S1024x4 (V (Proc.devRef .tc main_v27)) (ix2 j a) := by
  after_results
  unfold fv
  pointwise

/-- The suppression call's third operand is the box differences turned on their side. -/
theorem h35 (a : Fin 4) (j : Fin 1024) :
    fv S4x1024 (after hostOps1_12 V (Proc.devRef .tc main_v35)) (ix2 a j) = fv S1024x4 (V (Proc.devRef .tc main_v28)) (ix2 j a) := by
  after_results
  unfold fv
  pointwise

/-! Over the whole stretch. -/
variable (m : (ℓ : Loc nD τ sig) → Buf (Elt Ideal) ℓ) (o : Outs (F := Ideal)) (c : Dev nD)

/-- The candidates' rows and classes, as gather indices. -/
abbrev idx : IVec S1000x2 32 := V6 m o c (Proc.devRef .tc main_v24)

/-- The proposals are unchanged when they are gathered. -/
theorem arg2 : V5 m o c (Proc.devRef .tc main_arg2) = V0 m c (Proc.devRef .tc main_arg2) := by
  rw [V5_of m o c main_arg2 (by decide), V4_of m o c main_arg2 (by decide), V3_of m o c main_arg2 (by decide),
    V2_of m o c main_arg2 (by decide), V1_of m o c main_arg2 (by decide)]

/-- The box differences are unchanged when they are gathered. -/
theorem arg1 : V5 m o c (Proc.devRef .tc main_arg1) = V0 m c (Proc.devRef .tc main_arg1) := by
  rw [V5_of m o c main_arg1 (by decide), V4_of m o c main_arg1 (by decide), V3_of m o c main_arg1 (by decide),
    V2_of m o c main_arg1 (by decide), V1_of m o c main_arg1 (by decide)]

/-- The deltas, class by class. -/
abbrev del : S20000x80x4.Idx → EReal := shapeCast S20000x80x4 (fv S20000x320 (V0 m c (Proc.devRef .tc main_arg1))) shapeCasts_S20000x320_S20000x80x4

/-- The padded proposals, of the inputs. -/
theorem v27 (k : Fin 1000) (a : Fin 4) :
    fv S1024x4 (V14 m o c (Proc.devRef .tc main_v27)) (ix2 (up k) a)
      = fv S20000x4 (V0 m c (Proc.devRef .tc main_arg2)) (ix2 (row (idx m o c) k) a) := by
  rw [V14_of m o c main_v27 (by decide), V13_of m o c main_v27 (by decide), V12_of m o c main_v27 (by decide),
    V11_of m o c main_v27 (by decide), V10_of m o c main_v27 (by decide), V9_of m o c main_v27 (by decide), V8_of m o c main_v27 (by decide)]
  refine (h27 _ k a).trans ((h10 _ k a).trans ?_)
  rw [arg2 m o c]

/-- The padded box differences, of the inputs. -/
theorem v28 (k : Fin 1000) (a : Fin 4) :
    fv S1024x4 (V14 m o c (Proc.devRef .tc main_v28)) (ix2 (up k) a)
      = del m c (ix3 (row (idx m o c) k) (cla (idx m o c) k) a) := by
  rw [V14_of m o c main_v28 (by decide), V13_of m o c main_v28 (by decide), V12_of m o c main_v28 (by decide),
    V11_of m o c main_v28 (by decide), V10_of m o c main_v28 (by decide)]
  refine (h28 _ k a).trans ?_
  rw [V8_of m o c main_v25 (by decide), V7_of m o c main_v25 (by decide)]
  refine (h25 _ k a).trans ?_
  rw [arg1 m o c]

/-- The padded classes, of the chosen candidates. -/
theorem v30 (k : Fin 1000) :
    fv S1024 (V13 m o c (Proc.devRef .tc main_v30)) (ix1 (up k))
      = FloatOps.sitofp (F := Ideal) .f32 ((V5 m o c (Proc.devRef .tc main_v3) : IVec S1000 32) (ix1 k)) := by
  refine (h30 _ k).trans ?_
  rw [V12_of m o c main_v26 (by decide),
    V11_of m o c main_v26 (by decide), V10_of m o c main_v26 (by decide), V9_of m o c main_v26 (by decide), V8_of m o c main_v26 (by decide), V7_of m o c main_v26 (by decide)]
  exact h26 _ k

/-- The padded scores, of the chosen values. -/
theorem v29 (k : Fin 1000) :
    fv S1024 (V13 m o c (Proc.devRef .tc main_v29)) (ix1 (up k)) = fv S1000 (V2 m o c (Proc.devRef .tc main_values)) (ix1 k) := by
  rw [V13_of m o c main_v29 (by decide), V12_of m o c main_v29 (by decide)]
  refine (h29 _ k).trans ?_
  rw [V10_of m o c main_values (by decide), V9_of m o c main_values (by decide), V8_of m o c main_values (by decide), V7_of m o c main_values (by decide),
    V6_of m o c main_values (by decide), V5_of m o c main_values (by decide), V4_of m o c main_values (by decide), V3_of m o c main_values (by decide)]

/-- The scores past the first thousand are the mark of a lost candidate. -/
theorem v29' (j : Fin 1024) (h : 1000 ≤ j.val) :
    fv S1024 (V13 m o c (Proc.devRef .tc main_v29)) (ix1 j) = Ideal.ofBits .f32 0xC61C4000#32 := by
  rw [V13_of m o c main_v29 (by decide), V12_of m o c main_v29 (by decide)]
  refine h29' _ ?_ j h
  unfold V10
  after_results

/-- The suppression call's proposals turned on their side, of the inputs. -/
theorem v34 (k : Fin 1000) (a : Fin 4) :
    fv S4x1024 (V14 m o c (Proc.devRef .tc main_v34)) (ix2 a (up k))
      = fv S20000x4 (V0 m c (Proc.devRef .tc main_arg2)) (ix2 (row (idx m o c) k) a) :=
  (h34 _ a (up k)).trans (by rw [← V14_of m o c main_v27 (by decide)]; exact v27 m o c k a)

/-- The suppression call's box differences turned on their side, of the inputs. -/
theorem v35 (k : Fin 1000) (a : Fin 4) :
    fv S4x1024 (V14 m o c (Proc.devRef .tc main_v35)) (ix2 a (up k)) = del m c (ix3 (row (idx m o c) k) (cla (idx m o c) k) a) :=
  (h35 _ a (up k)).trans (by rw [← V14_of m o c main_v28 (by decide)]; exact v28 m o c k a)

end Cert.KHost
-- ==== Proof.Shared.lean ====
/-  The parts of the host programs that both programs have: the candidates' rows and classes. -/
module

public import proofs.«01_k».proof.Proof.Gen.KernelIdeal.Launch
public import proofs.«01_k».proof.Proof.Gen.ReferenceIdeal.Run
public import Idealize.ShloMosaic.PureOps.Ideal

@[expose] public section

set_option maxRecDepth 16384

noncomputable section

namespace Cert.Shared

open Idealize.ShloMosaic Idealize.ShloMosaic.TcCoe Idealize.SL.Sem Idealize.ShloMosaic.StableHlo

variable (V : Valuation Cert.KernelIdeal.τ Cert.KernelIdeal.sig (Elt Ideal)) (V' : Valuation Cert.ReferenceIdeal.τ Cert.ReferenceIdeal.sig (Elt Ideal))

/-- The quotient by 80, in both programs. -/
theorem quot (h : (V (Proc.devRef .tc Cert.KernelIdeal.main_indices) : IVec ⟨1, ![1000]⟩ 32) = V' (Proc.devRef .tc Cert.ReferenceIdeal.main_indices))
    (hc : (V (Proc.devRef .tc Cert.KernelIdeal.main_c) : IVec ⟨0, ![]⟩ 32) = V' (Proc.devRef .tc Cert.ReferenceIdeal.main_c_23)) :
    (after Cert.KernelIdeal.Gen.hostOps1_1 V (Proc.devRef .tc Cert.KernelIdeal.main_v2) : IVec ⟨1, ![1000]⟩ 32)
      = after Cert.ReferenceIdeal.Gen.hostOps0_11 V' (Proc.devRef .tc Cert.ReferenceIdeal.main_v98) := by
  after_results
  rw [h, hc]

/-- The remainder by 80, in both programs. -/
theorem rema (h : (V (Proc.devRef .tc Cert.KernelIdeal.main_indices) : IVec ⟨1, ![1000]⟩ 32) = V' (Proc.devRef .tc Cert.ReferenceIdeal.main_indices))
    (hc : (V (Proc.devRef .tc Cert.KernelIdeal.main_c_0) : IVec ⟨0, ![]⟩ 32) = V' (Proc.devRef .tc Cert.ReferenceIdeal.main_c_24)) :
    (after Cert.KernelIdeal.Gen.hostOps1_3 V (Proc.devRef .tc Cert.KernelIdeal.main_v3) : IVec ⟨1, ![1000]⟩ 32)
      = after Cert.ReferenceIdeal.Gen.hostOps0_13 V' (Proc.devRef .tc Cert.ReferenceIdeal.main_v99) := by
  after_results
  rw [h, hc]

/-- On equal scores both programs choose the same thousand values. -/
theorem vals (h : (V (Proc.devRef .tc Cert.KernelIdeal.main_v0) : FVec Ideal ⟨2, ![20000, 80]⟩ .f32) = V' (Proc.devRef .tc Cert.ReferenceIdeal.main_v11)) :
    (after Cert.KernelIdeal.Gen.hostOps1 V (Proc.devRef .tc Cert.KernelIdeal.main_values) : FVec Ideal ⟨1, ![1000]⟩ .f32)
      = after Cert.ReferenceIdeal.Gen.hostOps0_8 V' (Proc.devRef .tc Cert.ReferenceIdeal.main_values) := by
  after_results
  rw [h]
  rfl

/-- On equal scores both programs choose the same thousand places. -/
theorem idxs (h : (V (Proc.devRef .tc Cert.KernelIdeal.main_v0) : FVec Ideal ⟨2, ![20000, 80]⟩ .f32) = V' (Proc.devRef .tc Cert.ReferenceIdeal.main_v11)) :
    (after Cert.KernelIdeal.Gen.hostOps1 V (Proc.devRef .tc Cert.KernelIdeal.main_indices) : IVec ⟨1, ![1000]⟩ 32)
      = after Cert.ReferenceIdeal.Gen.hostOps0_8 V' (Proc.devRef .tc Cert.ReferenceIdeal.main_indices) := by
  after_results
  rw [h]
  rfl

/-- The candidates' rows and classes as gather indices, in both programs. -/
theorem prs (h2 : (V (Proc.devRef .tc Cert.KernelIdeal.main_v2) : IVec ⟨1, ![1000]⟩ 32) = V' (Proc.devRef .tc Cert.ReferenceIdeal.main_v98))
    (h3 : (V (Proc.devRef .tc Cert.KernelIdeal.main_v3) : IVec ⟨1, ![1000]⟩ 32) = V' (Proc.devRef .tc Cert.ReferenceIdeal.main_v99)) :
    (after Cert.KernelIdeal.Gen.hostOps1_4 V (Proc.devRef .tc Cert.KernelIdeal.main_v24) : IVec ⟨2, ![1000, 2]⟩ 32)
      = after Cert.ReferenceIdeal.Gen.hostOps0_14 V' (Proc.devRef .tc Cert.ReferenceIdeal.main_v112) := by
  after_results
  rw [h2, h3]

end Cert.Shared
-- ==== Proof.RSoft.lean ====
/-  The reference's class scores are the softmax of every row without its last column. -/
module

public import proofs.«01_k».proof.Proof.RFrame
public import proofs.«01_k».proof.Proof.Soft

@[expose] public section

set_option maxRecDepth 16384
set_option maxHeartbeats 2000000

noncomputable section

namespace Cert.RSoft

open Idealize.ShloMosaic Idealize.ShloMosaic.TcCoe Idealize.SL.Sem Idealize.ShloMosaic.StableHlo
open Cert.ReferenceIdeal Cert.ReferenceIdeal.Gen

variable (V : Valuation τ sig (Elt Ideal))

/-- The reference's class probabilities are the softmax of the class scores. -/
theorem v11 : (after hostOps0 V (Proc.devRef .tc main_v11) : FVec Ideal S20000x80 .f32) = Soft.G (N := 20000) (V (Proc.devRef .tc main_arg0)) := by
  refine Eq.trans ?_ (Soft.ref_eq _)
  after_results
  rfl

end Cert.RSoft
-- ==== Proof.RLoop.lean ====
/-  The reference's suppression loop, trip by trip: candidate `t`, if still kept, drops the later candidates it overlaps. -/
module

public import proofs.«01_k».proof.Proof.RFrame
public import Idealize.ShloMosaic.PureOps.Ideal
public import Idealize.ShloMosaic.Lib.Pointwise

@[expose] public section

set_option maxRecDepth 16384
set_option maxHeartbeats 2000000

noncomputable section

namespace Cert.RLoop

open Idealize.ShloMosaic Idealize.ShloMosaic.TcCoe Idealize.SL.Sem Idealize.ShloMosaic.StableHlo
open Cert.ReferenceIdeal Cert.ReferenceIdeal.Gen Cert.ReferenceIdeal.Value

/-- A row sliced at a word. -/
theorem row_at {α : Type} (x : S1000x1000.Idx → α) (st : Fin 2 → Int) (t : Fin 1000) (h0 : st 0 = t.val) (h1 : st 1 = 0) (j : Fin 1000) :
    Host.dynamicSlice S1x1000 x st sliceFits_S1000x1000_S1x1000 (ix2 0 j) = x (ix2 t j) := by
  have ht := t.isLt
  unfold Host.dynamicSlice extractStridedSlice
  refine congrArg x (funext fun b => Fin.ext ?_)
  match b with
  | ⟨0, _⟩ =>
    show (min (max (st 0) 0) ((1000 - 1 : ℕ) : Int)).toNat + 0 = t.val
    rw [h0]; omega
  | ⟨1, _⟩ =>
    show (min (max (st 1) 0) ((1000 - 1000 : ℕ) : Int)).toNat + j.val = j.val
    rw [h1]; omega

/-- An entry sliced at a word. -/
theorem one_at {α : Type} (x : S1000.Idx → α) (st : Fin 1 → Int) (t : Fin 1000) (h0 : st 0 = t.val) :
    Host.dynamicSlice S1 x st sliceFits_S1000_S1 (ix1 0) = x (ix1 t) := by
  have ht := t.isLt
  unfold Host.dynamicSlice extractStridedSlice
  refine congrArg x (funext fun b => Fin.ext ?_)
  match b with
  | ⟨0, _⟩ =>
    show (min (max (st 0) 0) ((1000 - 1 : ℕ) : Int)).toNat + 0 = t.val
    rw [h0]; omega

/-- The four words of one trip's update combine to 1 exactly where the candidate was kept and is not struck out. -/
theorem bits : ∀ a b c d : BitVec 1, IntOp.andi a (~~~(IntOp.andi (IntOp.andi b c) d)) = 1#1
    ↔ a = 1#1 ∧ ¬ ((b = 1#1 ∧ c = 1#1) ∧ d = 1#1) := by decide

/-- A small natural number survives the trip through a signed word. -/
theorem toInt_small (q : ℕ) (h : q < 2 ^ 31) : (BitVec.ofNat 32 q).toInt = q := by
  rw [BitVec.toInt_eq_toNat_of_lt] <;> rw [BitVec.toNat_ofNat, Nat.mod_eq_of_lt (by omega)]
  omega

/-- A small natural number is not negative as a signed word. -/
theorem not_slt (q : ℕ) (h : q < 2 ^ 31) : IntOp.cmpi .slt (BitVec.ofNat 32 q) 0#32 = 0#1 := by
  have h2 : (BitVec.ofNat 32 q).slt 0#32 = false := by
    rw [BitVec.slt_eq_decide, toInt_small q h]
    simp
  show BitVec.ofBool ((BitVec.ofNat 32 q).slt 0#32) = 0#1
  rw [h2]
  rfl

/-- Comparing two small natural numbers as signed words is comparing the numbers. -/
theorem sgt_iff (i j : ℕ) (hi : i < 2 ^ 31) (hj : j < 2 ^ 31) : IntOp.cmpi .sgt (BitVec.ofNat 32 j) (BitVec.ofNat 32 i) = 1#1 ↔ i < j := by
  show BitVec.ofBool ((BitVec.ofNat 32 i).slt (BitVec.ofNat 32 j)) = 1#1 ↔ i < j
  rw [BitVec.slt_eq_decide, toInt_small i hi, toInt_small j hj]
  by_cases h : i < j
  · simp [h]
  · simp [h]

/-- Wrapping negative places leaves a small natural number alone. -/
theorem sel_small (q : ℕ) (h : q < 2 ^ 31) (n : BitVec 32) :
    Scalar.select (IntOp.cmpi .slt (BitVec.ofNat 32 q) 0#32) (IntOp.addi (BitVec.ofNat 32 q) n) (BitVec.ofNat 32 q) = BitVec.ofNat 32 q := by
  rw [not_slt q h]; rfl

variable (V : Valuation τ sig (Elt Ideal))

/-- One trip. -/
theorem step (t : Fin 1000) (h3 : V (Proc.devRef .tc main_v164_3) = constantI S_ 32 (BitVec.ofNat 32 t.val))
    (h1 : ∀ j : Fin 1000, (V (Proc.devRef .tc main_v164_1) : IVec S1000 32) (ix1 j) = BitVec.ofNat 32 j.val) (j : Fin 1000) :
    (step_main_v164_4 V : IVec S1000 1) (ix1 j) = 1#1
      ↔ (V (Proc.devRef .tc main_v164_4) : IVec S1000 1) (ix1 j) = 1#1
        ∧ ¬ ((FloatOps.cmpf (F := Ideal) (φ := .f32) .ogt ((V (Proc.devRef .tc main_v164_0) : FVec Ideal S1000x1000 .f32) (ix2 t j)) (Ideal.ofBits .f32 0x3F000000#32) = 1#1
            ∧ t.val < j.val) ∧ (V (Proc.devRef .tc main_v164_4) : IVec S1000 1) (ix1 t) = 1#1) := by
  have ht := t.isLt
  have hj := j.isLt
  unfold step_main_v164_4 res_main_while0b_v185
  rw [h3]
  refine (bits _ _ _ _).trans (and_congr Iff.rfl (not_congr (and_congr (and_congr ?_ ?_) ?_)))
  · refine Eq.congr ?_ rfl
    refine congrArg (fun e : EReal => FloatOps.cmpf (F := Ideal) (φ := .f32) .ogt e (Ideal.ofBits .f32 0x3F000000#32)) ?_
    have hc : ∀ y : S1x1000.Idx → EReal, shapeCast S1000 y shapeCasts_S1x1000_S1000 (ix1 j) = y (ix2 0 j) := fun y => by pointwise
    refine (hc _).trans (row_at _ _ t ?_ ?_ j)
    · show (Scalar.select (IntOp.cmpi .slt (BitVec.ofNat 32 t.val) 0#32) (IntOp.addi (BitVec.ofNat 32 t.val) 1000#32) (BitVec.ofNat 32 t.val)).toInt = _
      rw [sel_small _ (by omega), toInt_small _ (by omega)]
    · rfl
  · show IntOp.cmpi .sgt ((V (Proc.devRef .tc main_v164_1) : IVec S1000 32) (ix1 j)) (BitVec.ofNat 32 t.val) = 1#1 ↔ _
    rw [h1 j]
    exact sgt_iff _ _ (by omega) (by omega)
  · refine Eq.congr ?_ rfl
    have hc : ∀ y : S1.Idx → BitVec 1, broadcastInDim S1000 ![] bcast_S_S1000 (shapeCast S_ y shapeCasts_S1_S_) (ix1 j) = y (ix1 0) := fun y => by pointwise
    refine (hc _).trans (one_at _ _ t ?_)
    show (Scalar.select (IntOp.cmpi .slt (BitVec.ofNat 32 t.val) 0#32) (IntOp.addi (BitVec.ofNat 32 t.val) 1000#32) (BitVec.ofNat 32 t.val)).toInt = _
    rw [sel_small _ (by omega), toInt_small _ (by omega)]

end Cert.RLoop
-- ==== Proof.RDec.lean ====
/-  The reference's boxes, entry by entry: every class's box of every proposal, decoded and clipped. -/
module

public import proofs.«01_k».proof.Proof.RFrame
public import proofs.«01_k».proof.Proof.Box

@[expose] public section

set_option maxRecDepth 16384
set_option maxHeartbeats 2000000

noncomputable section

namespace Cert.RDec

open Idealize.ShloMosaic Idealize.ShloMosaic.TcCoe Idealize.SL.Sem Idealize.ShloMosaic.StableHlo
open Cert.ReferenceIdeal Cert.ReferenceIdeal.Gen

/-- A buffer of floats, as a function into the extended reals. -/
abbrev fv (s : Shape) (x : FVec Ideal s .f32) : s.Idx → EReal := x

variable (V : Valuation τ sig (Elt Ideal))

/-- The deltas, class by class. -/
abbrev del : S20000x80x4.Idx → EReal := shapeCast S20000x80x4 (fv S20000x320 (V (Proc.devRef .tc main_arg1))) shapeCasts_S20000x320_S20000x80x4
/-- The proposals. -/
abbrev pro : S20000x4.Idx → EReal := fv S20000x4 (V (Proc.devRef .tc main_arg2))

/-! The decoded centres and sizes. -/
theorem r58 (n : Fin 20000) (k : Fin 80) :
    fv S20000x80 (after hostOps0 V (Proc.devRef .tc main_v58)) (ix2 n k)
      = Ideal.div (del V (ix3 n k 0)) (Ideal.ofBits .f32 0x41200000#32) * (pro V (ix2 n 2) - pro V (ix2 n 0))
        + (pro V (ix2 n 0) + Ideal.ofBits .f32 0x3F000000#32 * (pro V (ix2 n 2) - pro V (ix2 n 0))) := by
  after_results
  unfold del pro fv
  generalize (shapeCast S20000x80x4 (V (Proc.devRef .tc main_arg1)) shapeCasts_S20000x320_S20000x80x4) = D
  pointwise
  try rfl

/-- The reference's decoded centre height, of the box difference and the proposal. -/
theorem r64 (n : Fin 20000) (k : Fin 80) :
    fv S20000x80 (after hostOps0 V (Proc.devRef .tc main_v64)) (ix2 n k)
      = Ideal.div (del V (ix3 n k 1)) (Ideal.ofBits .f32 0x41200000#32) * (pro V (ix2 n 3) - pro V (ix2 n 1))
        + (pro V (ix2 n 1) + Ideal.ofBits .f32 0x3F000000#32 * (pro V (ix2 n 3) - pro V (ix2 n 1))) := by
  after_results
  unfold del pro fv
  generalize (shapeCast S20000x80x4 (V (Proc.devRef .tc main_arg1)) shapeCasts_S20000x320_S20000x80x4) = D
  pointwise
  try rfl

/-- The reference's decoded width: the exponential of the clamped difference, times the proposal's width. -/
theorem r68 (n : Fin 20000) (k : Fin 80) :
    fv S20000x80 (after hostOps0 V (Proc.devRef .tc main_v68)) (ix2 n k)
      = Ideal.exp (min (Ideal.div (del V (ix3 n k 2)) (Ideal.ofBits .f32 0x40A00000#32)) (Ideal.ofBits .f32 0x40845349#32))
        * (pro V (ix2 n 2) - pro V (ix2 n 0)) := by
  after_results
  unfold del pro fv
  generalize (shapeCast S20000x80x4 (V (Proc.devRef .tc main_arg1)) shapeCasts_S20000x320_S20000x80x4) = D
  pointwise
  try rfl

/-- The reference's decoded height: the exponential of the clamped difference, times the proposal's height. -/
theorem r72 (n : Fin 20000) (k : Fin 80) :
    fv S20000x80 (after hostOps0 V (Proc.devRef .tc main_v72)) (ix2 n k)
      = Ideal.exp (min (Ideal.div (del V (ix3 n k 3)) (Ideal.ofBits .f32 0x40A00000#32)) (Ideal.ofBits .f32 0x40845349#32))
        * (pro V (ix2 n 3) - pro V (ix2 n 1)) := by
  after_results
  unfold del pro fv
  generalize (shapeCast S20000x80x4 (V (Proc.devRef .tc main_arg1)) shapeCasts_S20000x320_S20000x80x4) = D
  pointwise
  try rfl

/-- The reference's left edge before clamping: the centre less half the width. -/
theorem r75 (n : Fin 20000) (k : Fin 80) :
    fv S20000x80 (after hostOps0 V (Proc.devRef .tc main_v75)) (ix2 n k)
      = fv S20000x80 (after hostOps0 V (Proc.devRef .tc main_v58)) (ix2 n k)
        - Ideal.ofBits .f32 0x3F000000#32 * fv S20000x80 (after hostOps0 V (Proc.devRef .tc main_v68)) (ix2 n k) := by
  after_results
  rfl

/-- The whole number 1216 as a float is the constant the kernel writes for it. -/
theorem w1216 : FloatOps.sitofp (F := Ideal) .f32 1216#32 = Ideal.ofBits .f32 0x44980000#32 := by
  have h : (1216#32 : BitVec 32).toInt = 1216 := by decide
  show ((((1216#32 : BitVec 32).toInt : ℝ)) : EReal) = _
  rw [h]
  simp [Ideal.ofBits, Ideal.ieee]
  rw [← EReal.coe_mul]
  congr 1
  norm_num

/-- The whole number 800 as a float is the constant the kernel writes for it. -/
theorem w800 : FloatOps.sitofp (F := Ideal) .f32 800#32 = Ideal.ofBits .f32 0x44480000#32 := by
  have h : (800#32 : BitVec 32).toInt = 800 := by decide
  show ((((800#32 : BitVec 32).toInt : ℝ)) : EReal) = _
  rw [h]
  simp [Ideal.ofBits, Ideal.ieee]
  rw [← EReal.coe_mul]
  congr 1
  norm_num

/-! The clipped edges. -/
theorem r76 (h0 : V (Proc.devRef .tc main_cst_11) = constant (F := Ideal) S_ .f32 0x00000000#32)
    (hc : V (Proc.devRef .tc main_c) = constantI S_ 32 1216#32) (n : Fin 20000) (k : Fin 80) :
    fv S20000x80 (after hostOps0_1 V (Proc.devRef .tc main_v76)) (ix2 n k)
      = min (Ideal.ofBits .f32 0x44980000#32) (max 0 (fv S20000x80 (V (Proc.devRef .tc main_v75)) (ix2 n k))) := by
  after_results
  rw [h0, hc, ← w1216, ← Ideal.ofBits_zero_f32]
  rfl

/-- The reference's top edge, clamped into the image. -/
theorem r80 (h0 : V (Proc.devRef .tc main_cst_13) = constant (F := Ideal) S_ .f32 0x00000000#32)
    (hc : V (Proc.devRef .tc main_c_14) = constantI S_ 32 800#32) (n : Fin 20000) (k : Fin 80) :
    fv S20000x80 (after hostOps0_3 V (Proc.devRef .tc main_v80)) (ix2 n k)
      = min (Ideal.ofBits .f32 0x44480000#32) (max 0 (fv S20000x80 (V (Proc.devRef .tc main_v79)) (ix2 n k))) := by
  after_results
  rw [h0, hc, ← w800, ← Ideal.ofBits_zero_f32]
  rfl

/-- The reference's right edge, clamped into the image. -/
theorem r84 (h0 : V (Proc.devRef .tc main_cst_16) = constant (F := Ideal) S_ .f32 0x00000000#32)
    (hc : V (Proc.devRef .tc main_c_17) = constantI S_ 32 1216#32) (n : Fin 20000) (k : Fin 80) :
    fv S20000x80 (after hostOps0_5 V (Proc.devRef .tc main_v84)) (ix2 n k)
      = min (Ideal.ofBits .f32 0x44980000#32) (max 0 (fv S20000x80 (V (Proc.devRef .tc main_v83)) (ix2 n k))) := by
  after_results
  rw [h0, hc, ← w1216, ← Ideal.ofBits_zero_f32]
  rfl

/-- The reference's bottom edge, clamped into the image. -/
theorem r88 (h0 : V (Proc.devRef .tc main_cst_19) = constant (F := Ideal) S_ .f32 0x00000000#32)
    (hc : V (Proc.devRef .tc main_c_20) = constantI S_ 32 800#32) (n : Fin 20000) (k : Fin 80) :
    fv S20000x80 (after hostOps0_7 V (Proc.devRef .tc main_v88)) (ix2 n k)
      = min (Ideal.ofBits .f32 0x44480000#32) (max 0 (fv S20000x80 (V (Proc.devRef .tc main_v87)) (ix2 n k))) := by
  after_results
  rw [h0, hc, ← w800, ← Ideal.ofBits_zero_f32]
  rfl

/-- The reference's top edge before clamping. -/
theorem r79 (n : Fin 20000) (k : Fin 80) :
    fv S20000x80 (after hostOps0_2 V (Proc.devRef .tc main_v79)) (ix2 n k)
      = fv S20000x80 (V (Proc.devRef .tc main_v64)) (ix2 n k)
        - Ideal.ofBits .f32 0x3F000000#32 * fv S20000x80 (V (Proc.devRef .tc main_v72)) (ix2 n k) := by
  after_results
  rfl

/-- The reference's right edge before clamping. -/
theorem r83 (n : Fin 20000) (k : Fin 80) :
    fv S20000x80 (after hostOps0_4 V (Proc.devRef .tc main_v83)) (ix2 n k)
      = fv S20000x80 (V (Proc.devRef .tc main_v58)) (ix2 n k)
        + Ideal.ofBits .f32 0x3F000000#32 * fv S20000x80 (V (Proc.devRef .tc main_v68)) (ix2 n k) := by
  after_results
  rfl

/-- The reference's bottom edge before clamping. -/
theorem r87 (n : Fin 20000) (k : Fin 80) :
    fv S20000x80 (after hostOps0_6 V (Proc.devRef .tc main_v87)) (ix2 n k)
      = fv S20000x80 (V (Proc.devRef .tc main_v64)) (ix2 n k)
        + Ideal.ofBits .f32 0x3F000000#32 * fv S20000x80 (V (Proc.devRef .tc main_v72)) (ix2 n k) := by
  after_results
  rfl

/-- The decoded boxes, class by class, over their four edges. -/
theorem r93 (n : Fin 20000) (k : Fin 80) (a : Fin 4) :
    fv S20000x80x4 (after hostOps0_8 V (Proc.devRef .tc main_v93)) (ix3 n k a)
      = (![fv S20000x80 (V (Proc.devRef .tc main_v76)) (ix2 n k), fv S20000x80 (V (Proc.devRef .tc main_v80)) (ix2 n k),
          fv S20000x80 (V (Proc.devRef .tc main_v84)) (ix2 n k), fv S20000x80 (V (Proc.devRef .tc main_v88)) (ix2 n k)] : Fin 4 → EReal) a := by
  after_results
  unfold fv
  match a with
  | 0 =>
    pointwise
    repeat (first | rw [unary_result] | (rw [unary_result_ne]; rotate_left; decide))
    pointwise
  | 1 =>
    pointwise
    repeat (first | rw [unary_result] | (rw [unary_result_ne]; rotate_left; decide))
    pointwise
  | 2 =>
    pointwise
    repeat (first | rw [unary_result] | (rw [unary_result_ne]; rotate_left; decide))
    pointwise
  | 3 =>
    pointwise
    repeat (first | rw [unary_result] | (rw [unary_result_ne]; rotate_left; decide))
    pointwise

end Cert.RDec
-- ==== Proof.RHost.lean ====
/-  The reference's candidates before its loop, entry by entry: their boxes, how much each pair overlaps, their scores. -/
module

public import proofs.«01_k».proof.Proof.RDec
public import proofs.«01_k».proof.Proof.KHost

@[expose] public section

set_option maxRecDepth 16384
set_option maxHeartbeats 2000000

noncomputable section

namespace Cert.RHost

open Idealize.ShloMosaic Idealize.ShloMosaic.TcCoe Idealize.SL.Sem Idealize.ShloMosaic.StableHlo
open Cert.ReferenceIdeal Cert.ReferenceIdeal.Gen Cert.RFrame Cert.RDec
open Cert.KHost (row cla)

variable (V : Valuation τ sig (Elt Ideal))

/-- The reference's chosen boxes: candidate `k` has the box at its own row and class. -/
theorem h113 (k : Fin 1000) (a : Fin 4) :
    fv S1000x4 (after hostOps0_14 V (Proc.devRef .tc main_v113)) (ix2 k a)
      = fv S20000x80x4 (V (Proc.devRef .tc main_v93))
          (ix3 (row (after hostOps0_14 V (Proc.devRef .tc main_v112)) k) (cla (after hostOps0_14 V (Proc.devRef .tc main_v112)) k) a) := by
  after_results
  exact Gath.pairs _ _ k a

/-- The reference's boxes moved apart by class. -/
theorem h119 (k : Fin 1000) (a : Fin 4) :
    fv S1000x4 (after hostOps0_14 V (Proc.devRef .tc main_v119)) (ix2 k a)
      = Box.shift (fun a => fv S1000x4 (after hostOps0_14 V (Proc.devRef .tc main_v113)) (ix2 k a))
          (FloatOps.sitofp (F := Ideal) .f32 ((V (Proc.devRef .tc main_v99) : IVec S1000 32) (ix1 k))) a := by
  after_results
  unfold fv Box.shift
  pointwise

/-- The reference's areas of the moved boxes. -/
theorem h130 (k : Fin 1000) :
    fv S1000 (after hostOps0_14 V (Proc.devRef .tc main_v130)) (ix1 k)
      = Box.area (fun a => fv S1000x4 (after hostOps0_14 V (Proc.devRef .tc main_v119)) (ix2 k a)) := by
  after_results
  unfold fv Box.area
  pointwise

/-- The width two moved boxes have in common, before it is raised to zero. -/
theorem h145_0 (i j : Fin 1000) :
    fv S1000x1000x2 (after hostOps0_14 V (Proc.devRef .tc main_v145)) (ix3 i j 0)
      = min (fv S1000x4 (after hostOps0_14 V (Proc.devRef .tc main_v119)) (ix2 i 2)) (fv S1000x4 (after hostOps0_14 V (Proc.devRef .tc main_v119)) (ix2 j 2))
       - max (fv S1000x4 (after hostOps0_14 V (Proc.devRef .tc main_v119)) (ix2 i 0)) (fv S1000x4 (after hostOps0_14 V (Proc.devRef .tc main_v119)) (ix2 j 0)) := by
  after_results
  unfold fv
  pointwise

/-- The height two moved boxes have in common, before it is raised to zero. -/
theorem h145_1 (i j : Fin 1000) :
    fv S1000x1000x2 (after hostOps0_14 V (Proc.devRef .tc main_v145)) (ix3 i j 1)
      = min (fv S1000x4 (after hostOps0_14 V (Proc.devRef .tc main_v119)) (ix2 i 3)) (fv S1000x4 (after hostOps0_14 V (Proc.devRef .tc main_v119)) (ix2 j 3))
       - max (fv S1000x4 (after hostOps0_14 V (Proc.devRef .tc main_v119)) (ix2 i 1)) (fv S1000x4 (after hostOps0_14 V (Proc.devRef .tc main_v119)) (ix2 j 1)) := by
  after_results
  unfold fv
  pointwise

/-- The common widths and heights, raised to zero where negative. -/
theorem h146 (h0 : V (Proc.devRef .tc main_cst_30) = constant (F := Ideal) S_ .f32 0x00000000#32) (i j : Fin 1000) (a : Fin 2) :
    fv S1000x1000x2 (after hostOps0_15 V (Proc.devRef .tc main_v146)) (ix3 i j a)
      = max 0 (fv S1000x1000x2 (V (Proc.devRef .tc main_v145)) (ix3 i j a)) := by
  after_results
  rw [h0, ← Ideal.ofBits_zero_f32]
  rfl

/-- The reference's overlap of two boxes: what they have in common over what they cover together. -/
theorem h160 (i j : Fin 1000) :
    fv S1000x1000 (after hostOps0_16 V (Proc.devRef .tc main_v164_0)) (ix2 i j)
      = Ideal.div (fv S1000x1000x2 (V (Proc.devRef .tc main_v146)) (ix3 i j 0) * fv S1000x1000x2 (V (Proc.devRef .tc main_v146)) (ix3 i j 1))
        (fv S1000 (V (Proc.devRef .tc main_v130)) (ix1 i) + fv S1000 (V (Proc.devRef .tc main_v130)) (ix1 j)
          - fv S1000x1000x2 (V (Proc.devRef .tc main_v146)) (ix3 i j 0) * fv S1000x1000x2 (V (Proc.devRef .tc main_v146)) (ix3 i j 1)
          + Ideal.ofBits .f32 0x3089705F#32) := by
  after_results
  unfold fv
  simp only [id]
  pointwise

/-- The numbers the loop compares with its counter are the candidates' own places. -/
theorem h164_1 (j : Fin 1000) : (after hostOps0_16 V (Proc.devRef .tc main_v164_1) : IVec S1000 32) (ix1 j) = BitVec.ofNat 32 j.val := by
  after_results
  rfl

/-- The loop's counter starts at zero. -/
theorem h164_3 : after hostOps0_16 V (Proc.devRef .tc main_v164_3) = constantI S_ 32 0#32 := by
  after_results
  rfl

/-- The loop starts with the candidates of positive score kept. -/
theorem h164_4 (j : Fin 1000) : (after hostOps0_16 V (Proc.devRef .tc main_v164_4) : IVec S1000 1) (ix1 j)
    = BitVec.ofBool (decide ((0 : EReal) < fv S1000 (V (Proc.devRef .tc main_v97)) (ix1 j))) := by
  after_results
  rw [← Ideal.ofBits_zero_f32]
  rfl

/-- The test of a score against the threshold. -/
theorem h96 (k : Fin 1000) : (after hostOps0_8 V (Proc.devRef .tc main_v96) : IVec S1000 1) (ix1 k)
    = BitVec.ofBool (decide (Ideal.ofBits .f32 0x3D4CCCCD#32 < fv S1000 (after hostOps0_8 V (Proc.devRef .tc main_values)) (ix1 k))) := by
  after_results
  rfl

/-- A candidate's score where it passes the threshold, and the mark of a lost candidate elsewhere. -/
theorem h97 (hc : V (Proc.devRef .tc main_cst_22) = constant (F := Ideal) S_ .f32 0xC61C4000#32) (k : Fin 1000) :
    fv S1000 (after hostOps0_9 V (Proc.devRef .tc main_v97)) (ix1 k)
      = Scalar.select ((V (Proc.devRef .tc main_v96) : IVec S1000 1) (ix1 k)) (fv S1000 (V (Proc.devRef .tc main_values)) (ix1 k)) (Ideal.ofBits .f32 0xC61C4000#32) := by
  after_results
  rw [hc]
  rfl

/-- The final scores: a kept candidate's own score, and the mark of a lost candidate elsewhere. -/
theorem h165 (hc : V (Proc.devRef .tc main_cst_35) = constant (F := Ideal) S_ .f32 0xC61C4000#32) (k : Fin 1000) :
    fv S1000 (after hostOps0_18 V (Proc.devRef .tc main_v165)) (ix1 k)
      = Scalar.select ((V (Proc.devRef .tc main_v164_4) : IVec S1000 1) (ix1 k)) (fv S1000 (V (Proc.devRef .tc main_v97)) (ix1 k)) (Ideal.ofBits .f32 0xC61C4000#32) := by
  after_results
  rw [hc]
  rfl

/-! Over the whole program up to the loop. -/
variable (m : (ℓ : Loc nD τ sig) → Buf (Elt Ideal) ℓ) (c : Dev nD)

/-- The candidates' rows and classes, as gather indices. -/
abbrev idx : IVec S1000x2 32 := B15 m c (Proc.devRef .tc main_v112)

/-- The left edge of every box the reference decodes, of the inputs. -/
theorem e76 (n : Fin 20000) (k : Fin 80) : fv S20000x80 (B8 m c (Proc.devRef .tc main_v76)) (ix2 n k)
    = Box.dec (fun a => pro (B0 m c) (ix2 n a)) (fun a => del (B0 m c) (ix3 n k a)) 0 := by
  rw [B8_of m c main_v76 (by decide), B7_of m c main_v76 (by decide), B6_of m c main_v76 (by decide), B5_of m c main_v76 (by decide), B4_of m c main_v76 (by decide), B3_of m c main_v76 (by decide)]
  refine (r76 _ (by unfold B1; after_results) (by unfold B1; after_results) n k).trans ?_
  rw [r75, r58, r68]
  rfl

/-- The top edge of every box the reference decodes, of the inputs. -/
theorem e80 (n : Fin 20000) (k : Fin 80) : fv S20000x80 (B8 m c (Proc.devRef .tc main_v80)) (ix2 n k)
    = Box.dec (fun a => pro (B0 m c) (ix2 n a)) (fun a => del (B0 m c) (ix3 n k a)) 1 := by
  rw [B8_of m c main_v80 (by decide), B7_of m c main_v80 (by decide), B6_of m c main_v80 (by decide), B5_of m c main_v80 (by decide)]
  refine (r80 _ (by unfold B3; after_results) (by unfold B3; after_results) n k).trans ?_
  rw [r79, B2_of m c main_v64 (by decide), B2_of m c main_v72 (by decide), r64, r72]
  rfl

/-- The right edge of every box the reference decodes, of the inputs. -/
theorem e84 (n : Fin 20000) (k : Fin 80) : fv S20000x80 (B8 m c (Proc.devRef .tc main_v84)) (ix2 n k)
    = Box.dec (fun a => pro (B0 m c) (ix2 n a)) (fun a => del (B0 m c) (ix3 n k a)) 2 := by
  rw [B8_of m c main_v84 (by decide), B7_of m c main_v84 (by decide)]
  refine (r84 _ (by unfold B5; after_results) (by unfold B5; after_results) n k).trans ?_
  rw [r83, B4_of m c main_v58 (by decide), B3_of m c main_v58 (by decide), B2_of m c main_v58 (by decide), B4_of m c main_v68 (by decide), B3_of m c main_v68 (by decide), B2_of m c main_v68 (by decide), r58, r68]
  rfl

/-- The bottom edge of every box the reference decodes, of the inputs. -/
theorem e88 (n : Fin 20000) (k : Fin 80) : fv S20000x80 (B8 m c (Proc.devRef .tc main_v88)) (ix2 n k)
    = Box.dec (fun a => pro (B0 m c) (ix2 n a)) (fun a => del (B0 m c) (ix3 n k a)) 3 := by
  refine (r88 _ (by unfold B7; after_results) (by unfold B7; after_results) n k).trans ?_
  rw [r87, B6_of m c main_v64 (by decide), B5_of m c main_v64 (by decide), B4_of m c main_v64 (by decide), B3_of m c main_v64 (by decide), B2_of m c main_v64 (by decide), B6_of m c main_v72 (by decide), B5_of m c main_v72 (by decide), B4_of m c main_v72 (by decide), B3_of m c main_v72 (by decide), B2_of m c main_v72 (by decide), r64, r72]
  rfl

/-- A candidate's box. -/
theorem box (k : Fin 1000) (a : Fin 4) : fv S1000x4 (B15 m c (Proc.devRef .tc main_v113)) (ix2 k a)
    = Box.dec (fun a => pro (B0 m c) (ix2 (row (idx m c) k) a)) (fun a => del (B0 m c) (ix3 (row (idx m c) k) (cla (idx m c) k) a)) a := by
  refine (h113 _ k a).trans ?_
  rw [B14_of m c main_v93 (by decide), B13_of m c main_v93 (by decide), B12_of m c main_v93 (by decide), B11_of m c main_v93 (by decide), B10_of m c main_v93 (by decide)]
  refine (r93 _ _ _ a).trans ?_
  rw [e76, e80, e84, e88]
  match a with
  | 0 => rfl
  | 1 => rfl
  | 2 => rfl
  | 3 => rfl

/-- How much two candidates overlap. -/
theorem over (i j : Fin 1000) : fv S1000x1000 (B17 m c (Proc.devRef .tc main_v164_0)) (ix2 i j)
    = Box.iou (Box.shift (fun a => fv S1000x4 (B15 m c (Proc.devRef .tc main_v113)) (ix2 i a)) (FloatOps.sitofp (F := Ideal) .f32 ((B14 m c (Proc.devRef .tc main_v99) : IVec S1000 32) (ix1 i))))
      (Box.shift (fun a => fv S1000x4 (B15 m c (Proc.devRef .tc main_v113)) (ix2 j a)) (FloatOps.sitofp (F := Ideal) .f32 ((B14 m c (Proc.devRef .tc main_v99) : IVec S1000 32) (ix1 j)))) := by
  have hc : B15 m c (Proc.devRef .tc main_cst_30) = constant (F := Ideal) S_ .f32 0x00000000#32 := by unfold B15; after_results
  refine (h160 _ i j).trans ?_
  rw [B16_of m c main_v130 (by decide), h146 _ hc, h146 _ hc, h145_0, h145_1, h130, h130]
  have hk : ∀ k, (fun a => fv S1000x4 (after hostOps0_14 (B14 m c) (Proc.devRef .tc main_v119)) (ix2 k a)) = _ := fun k => funext (h119 (B14 m c) k)
  rw [← hk i, ← hk j]
  rfl

/-- Choosing by the threshold's test is the thresholded score. -/
theorem sel_thr (v : EReal) : Scalar.select (BitVec.ofBool (decide (Ideal.ofBits .f32 0x3D4CCCCD#32 < v))) v (Ideal.ofBits .f32 0xC61C4000#32) = Box.thr v := by
  unfold Box.thr
  by_cases h : Ideal.ofBits .f32 0x3D4CCCCD#32 < v
  · rw [if_pos h, decide_eq_true h]; rfl
  · rw [if_neg h, decide_eq_false h]; rfl

/-- A candidate's score, if it counts. -/
theorem score (k : Fin 1000) : fv S1000 (B17 m c (Proc.devRef .tc main_v97)) (ix1 k) = Box.thr (fv S1000 (B9 m c (Proc.devRef .tc main_values)) (ix1 k)) := by
  rw [B17_of m c main_v97 (by decide), B16_of m c main_v97 (by decide), B15_of m c main_v97 (by decide), B14_of m c main_v97 (by decide), B13_of m c main_v97 (by decide), B12_of m c main_v97 (by decide), B11_of m c main_v97 (by decide)]
  refine (h97 _ (by unfold B9; after_results) k).trans ?_
  exact (congrArg (fun b : BitVec 1 => Scalar.select b (fv S1000 (B9 m c (Proc.devRef .tc main_values)) (ix1 k)) (Ideal.ofBits .f32 0xC61C4000#32)) (h96 (B8 m c) k)).trans (sel_thr _)

/-- Which candidates the loop starts from. -/
theorem start (k : Fin 1000) : (B17 m c (Proc.devRef .tc main_v164_4) : IVec S1000 1) (ix1 k) = 1#1
    ↔ (0 : EReal) < Box.thr (fv S1000 (B9 m c (Proc.devRef .tc main_values)) (ix1 k)) := by
  refine Iff.trans (Eq.congr (h164_4 _ k) rfl) ?_
  rw [← B17_of m c main_v97 (by decide), score]
  by_cases h : (0 : EReal) < Box.thr (fv S1000 (B9 m c (Proc.devRef .tc main_values)) (ix1 k))
  · rw [decide_eq_true h]; exact ⟨fun _ => h, fun _ => rfl⟩
  · rw [decide_eq_false h]; exact ⟨fun e => absurd e (show ¬ BitVec.ofBool false = (1#1 : BitVec 1) by decide), fun e => absurd e h⟩

/-- The scores the hundred greatest are taken of. -/
theorem fin_score (k : Fin 1000) : fv S1000 (B20 m c (Proc.devRef .tc main_v165)) (ix1 k)
    = Scalar.select ((X m c (Proc.devRef .tc main_v164_4) : IVec S1000 1) (ix1 k)) (Box.thr (fv S1000 (B9 m c (Proc.devRef .tc main_values)) (ix1 k))) (Ideal.ofBits .f32 0xC61C4000#32) := by
  refine (h165 _ (by unfold B19; after_results) k).trans ?_
  rw [B19_of m c main_v164_4 (by decide), B18_of m c main_v164_4 (by decide), B19_of m c main_v97 (by decide), B18_of m c main_v97 (by decide),
    X_of m c main_v97 (by decide) (by decide), score]

end Cert.RHost
-- ==== Proof.RKeep.lean ====
/-  Which candidates the reference's loop keeps, trip by trip. -/
module

public import proofs.«01_k».proof.Proof.RLoop
public import proofs.«01_k».proof.Proof.RHost

@[expose] public section

set_option maxRecDepth 16384
set_option maxHeartbeats 2000000

noncomputable section

namespace Cert.RKeep

open Idealize.ShloMosaic Idealize.ShloMosaic.TcCoe Idealize.SL.Sem Idealize.ShloMosaic.StableHlo
open Cert.ReferenceIdeal Cert.ReferenceIdeal.Gen Cert.ReferenceIdeal.Value Cert.RFrame Cert.RDec

variable (m : (ℓ : Loc nD τ sig) → Buf (Elt Ideal) ℓ) (c : Dev nD)

/-- Candidate `j` is kept after `t` trips. -/
def Q (t : ℕ) (j : Fin 1000) : Prop := (atK m t c (Proc.devRef .tc main_v164_4) : IVec S1000 1) (ix1 j) = 1#1

/-- The loop's counter after `t` trips is `t`. -/
theorem counter : ∀ t : ℕ, atK m t c (Proc.devRef .tc main_v164_3) = constantI S_ 32 (BitVec.ofNat 32 t)
  | 0 => RHost.h164_3 (B16 m c)
  | t + 1 => by
    refine (trip_agree (atK m t c) main_v164_3 (by decide)).trans ((STEP_main_v164_3 _).trans ?_)
    unfold step_main_v164_3
    rw [counter t]
    funext i
    show BitVec.ofNat 32 t + 1#32 = BitVec.ofNat 32 (t + 1)
    rw [BitVec.ofNat_add]

/-- The candidates' places are the same at every trip. -/
theorem numbers (t : ℕ) (j : Fin 1000) : (atK m t c (Proc.devRef .tc main_v164_1) : IVec S1000 32) (ix1 j) = BitVec.ofNat 32 j.val :=
  (congrFun (atK_of m c main_v164_1 (by decide) (by decide) t) (ix1 j)).trans (RHost.h164_1 (B16 m c) j)

/-- Candidates `i` and `j` overlap by more than one half. -/
def Ov (i j : Fin 1000) : Prop := Ideal.ofBits .f32 0x3F000000#32 < fv S1000x1000 (B17 m c (Proc.devRef .tc main_v164_0)) (ix2 i j)

/-- The comparison word is 1 exactly where the second number is below the first. -/
theorem ogt_iff (x y : EReal) : FloatOps.cmpf (F := Ideal) (φ := .f32) .ogt x y = 1#1 ↔ y < x := by
  show BitVec.ofBool (decide (y < x)) = 1#1 ↔ _
  by_cases h : y < x
  · rw [decide_eq_true h]; exact ⟨fun _ => h, fun _ => rfl⟩
  · rw [decide_eq_false h]; exact ⟨fun e => absurd e (by decide), fun e => absurd e h⟩

/-- One trip: candidate `t`, if kept, drops the later ones it overlaps. -/
theorem trip (t : ℕ) (ht : t < 1000) (j : Fin 1000) :
    Q m c (t + 1) j ↔ Q m c t j ∧ ¬ ((Ov m c ⟨t, ht⟩ j ∧ t < j.val) ∧ Q m c t ⟨t, ht⟩) := by
  have e : Q m c (t + 1) j ↔ (step_main_v164_4 (atK m t c) : IVec S1000 1) (ix1 j) = 1#1 :=
    Eq.congr (congrFun ((trip_agree (atK m t c) main_v164_4 (by decide)).trans (STEP_main_v164_4 _)) (ix1 j)) rfl
  refine e.trans ((RLoop.step (atK m t c) ⟨t, ht⟩ (counter m c t) (numbers m c t) j).trans ?_)
  refine and_congr Iff.rfl (not_congr (and_congr (and_congr ?_ Iff.rfl) Iff.rfl))
  refine (ogt_iff _ _).trans ?_
  unfold Ov
  rw [atK_of m c main_v164_0 (by decide) (by decide) t]

end Cert.RKeep
-- ==== Proof.Same.lean ====
/-  Both programs, from memories that agree on the arguments, have the same candidates: the same scores, rows, classes and
    boxes. -/
module

public import proofs.«01_k».proof.Proof.KFrame
public import proofs.«01_k».proof.Proof.KOut
public import proofs.«01_k».proof.Proof.KHost
public import proofs.«01_k».proof.Proof.Shared
public import proofs.«01_k».proof.Proof.RSoft
public import proofs.«01_k».proof.Proof.RKeep

@[expose] public section

set_option maxRecDepth 16384
set_option maxHeartbeats 2000000

noncomputable section

namespace Cert.Same

open Idealize.ShloMosaic Idealize.ShloMosaic.TcCoe Idealize.SL.Sem Idealize.ShloMosaic.StableHlo
open Cert.KHost (fv up row cla)
open Cert.KernelIdeal.Gen Cert.RFrame Cert.KFrame

variable (m : (ℓ : Loc Cert.KernelIdeal.nD Cert.KernelIdeal.τ Cert.KernelIdeal.sig) → Buf (Elt Ideal) ℓ)
  (m' : (ℓ : Loc Cert.ReferenceIdeal.nD Cert.ReferenceIdeal.τ Cert.ReferenceIdeal.sig) → Buf (Elt Ideal) ℓ) (c : Dev 1)

/-- The two memories hold the same class scores, deltas and proposals. -/
structure Agree : Prop where
  a0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
  a1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
  a2 : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)

variable {m m' c}
variable (h : Agree m m' c)
include h

/-- The class probabilities. -/
theorem probs : (V1 m (outsA m) c (Proc.devRef .tc Cert.KernelIdeal.main_v0) : FVec Ideal ⟨2, ![20000, 80]⟩ .f32)
    = B8 m' c (Proc.devRef .tc Cert.ReferenceIdeal.main_v11) := by
  rw [B8_of m' c Cert.ReferenceIdeal.main_v11 (by decide), B7_of m' c Cert.ReferenceIdeal.main_v11 (by decide), B6_of m' c Cert.ReferenceIdeal.main_v11 (by decide),
    B5_of m' c Cert.ReferenceIdeal.main_v11 (by decide), B4_of m' c Cert.ReferenceIdeal.main_v11 (by decide), B3_of m' c Cert.ReferenceIdeal.main_v11 (by decide),
    B2_of m' c Cert.ReferenceIdeal.main_v11 (by decide)]
  refine Eq.trans ?_ (RSoft.v11 (B0 m' c)).symm
  unfold V1
  rw [Function.update_self]
  refine (outsA_v0 m 1 c).trans ((KOut.scores_eq c (V0 m)).trans ?_)
  exact congrArg (Soft.G (N := 20000)) h.a0.symm

/-- The candidates' scores. -/
theorem values : (V2 m (outsA m) c (Proc.devRef .tc Cert.KernelIdeal.main_values) : FVec Ideal ⟨1, ![1000]⟩ .f32)
    = B9 m' c (Proc.devRef .tc Cert.ReferenceIdeal.main_values) := Shared.vals _ _ (probs h)

/-- The candidates' places. -/
theorem places : (V2 m (outsA m) c (Proc.devRef .tc Cert.KernelIdeal.main_indices) : IVec ⟨1, ![1000]⟩ 32)
    = B9 m' c (Proc.devRef .tc Cert.ReferenceIdeal.main_indices) := Shared.idxs _ _ (probs h)

/-- The candidates' rows. -/
theorem rows : (V3 m (outsA m) c (Proc.devRef .tc Cert.KernelIdeal.main_v2) : IVec ⟨1, ![1000]⟩ 32)
    = B12 m' c (Proc.devRef .tc Cert.ReferenceIdeal.main_v98) := by
  refine Shared.quot _ _ ?_ ?_
  · rw [B11_of m' c Cert.ReferenceIdeal.main_indices (by decide), B10_of m' c Cert.ReferenceIdeal.main_indices (by decide)]
    exact places h
  · unfold V2 B11
    after_results

/-- The candidates' classes. -/
theorem classes : (V5 m (outsA m) c (Proc.devRef .tc Cert.KernelIdeal.main_v3) : IVec ⟨1, ![1000]⟩ 32)
    = B14 m' c (Proc.devRef .tc Cert.ReferenceIdeal.main_v99) := by
  refine Shared.rema _ _ ?_ ?_
  · rw [B13_of m' c Cert.ReferenceIdeal.main_indices (by decide), B12_of m' c Cert.ReferenceIdeal.main_indices (by decide),
      B11_of m' c Cert.ReferenceIdeal.main_indices (by decide), B10_of m' c Cert.ReferenceIdeal.main_indices (by decide),
      V4_of m (outsA m) c Cert.KernelIdeal.main_indices (by decide), V3_of m (outsA m) c Cert.KernelIdeal.main_indices (by decide)]
    exact places h
  · unfold V4 B13
    after_results

/-- The gather indices. -/
theorem pairs : KHost.idx m (outsA m) c = RHost.idx m' c := by
  refine Shared.prs _ _ ?_ (classes h)
  rw [B14_of m' c Cert.ReferenceIdeal.main_v98 (by decide), B13_of m' c Cert.ReferenceIdeal.main_v98 (by decide),
    V5_of m (outsA m) c Cert.KernelIdeal.main_v2 (by decide), V4_of m (outsA m) c Cert.KernelIdeal.main_v2 (by decide)]
  exact rows h

/-- Both programs start from the same proposals. -/
theorem props : fv ⟨2, ![20000, 4]⟩ (V0 m c (Proc.devRef .tc Cert.KernelIdeal.main_arg2)) = RDec.pro (B0 m' c) := h.a2.symm

/-- Both programs start from the same box differences. -/
theorem deltas : KHost.del m c = RDec.del (B0 m' c) := by
  unfold KHost.del RDec.del
  refine congrArg (fun x => shapeCast ⟨3, ![20000, 80, 4]⟩ x Cert.KernelIdeal.Gen.shapeCasts_S20000x320_S20000x80x4) ?_
  exact h.a1.symm

/-- A candidate's box as the suppression call decodes it, by columns. -/
theorem box (k : Fin 1000) (a : Fin 4) :
    Box.dec (fun a => fv ⟨2, ![4, 1024]⟩ (VA m c (Proc.devRef .tc Cert.KernelIdeal.main_v34)) (ix2 a (up k)))
      (fun a => fv ⟨2, ![4, 1024]⟩ (VA m c (Proc.devRef .tc Cert.KernelIdeal.main_v35)) (ix2 a (up k))) a
      = fv ⟨2, ![1000, 4]⟩ (B15 m' c (Proc.devRef .tc Cert.ReferenceIdeal.main_v113)) (ix2 k a) := by
  refine Eq.trans ?_ (RHost.box m' c k a).symm
  rw [← pairs h, ← deltas h, ← props h]
  exact congrArg₂ (fun p d => Box.dec p d a) (funext fun a => KHost.v34 m (outsA m) c k a) (funext fun a => KHost.v35 m (outsA m) c k a)

/-- A candidate's box as the suppression call decodes it, by rows. -/
theorem box' (k : Fin 1000) (a : Fin 4) :
    Box.dec (fun a => fv ⟨2, ![1024, 4]⟩ (VA m c (Proc.devRef .tc Cert.KernelIdeal.main_v27)) (ix2 (up k) a))
      (fun a => fv ⟨2, ![1024, 4]⟩ (VA m c (Proc.devRef .tc Cert.KernelIdeal.main_v28)) (ix2 (up k) a)) a
      = fv ⟨2, ![1000, 4]⟩ (B15 m' c (Proc.devRef .tc Cert.ReferenceIdeal.main_v113)) (ix2 k a) := by
  refine Eq.trans ?_ (RHost.box m' c k a).symm
  rw [← pairs h, ← deltas h, ← props h]
  exact congrArg₂ (fun p d => Box.dec p d a) (funext fun a => KHost.v27 m (outsA m) c k a) (funext fun a => KHost.v28 m (outsA m) c k a)

/-- A candidate's class as a float. -/
theorem cls (k : Fin 1000) : fv ⟨1, ![1024]⟩ (V13 m (outsA m) c (Proc.devRef .tc Cert.KernelIdeal.main_v30)) (ix1 (up k))
    = FloatOps.sitofp (F := Ideal) .f32 ((B14 m' c (Proc.devRef .tc Cert.ReferenceIdeal.main_v99) : IVec ⟨1, ![1000]⟩ 32) (ix1 k)) := by
  refine (KHost.v30 m (outsA m) c k).trans ?_
  exact congrArg (FloatOps.sitofp (F := Ideal) .f32) (congrFun (classes h) (ix1 k))

/-- A candidate's score. -/
theorem score (k : Fin 1000) : fv ⟨2, ![2, 1024]⟩ (VA m c (Proc.devRef .tc Cert.KernelIdeal.main_v33)) (ix2 0 (up k))
    = fv ⟨1, ![1000]⟩ (B9 m' c (Proc.devRef .tc Cert.ReferenceIdeal.main_values)) (ix1 k) :=
  (KHost.h33_0 _ (up k)).trans ((KHost.v29 m (outsA m) c k).trans (congrFun (values h) (ix1 k)))

omit h in
/-- The padding's score. -/
theorem score' (j : Fin 1024) (hj : 1000 ≤ j.val) : fv ⟨2, ![2, 1024]⟩ (VA m c (Proc.devRef .tc Cert.KernelIdeal.main_v33)) (ix2 0 j)
    = Ideal.ofBits .f32 0xC61C4000#32 :=
  (KHost.h33_0 _ j).trans (KHost.v29' m (outsA m) c j hj)

/-- The kernel's row of classes holds the reference's class of each candidate. -/
theorem cls_row (k : Fin 1000) : fv ⟨2, ![2, 1024]⟩ (VA m c (Proc.devRef .tc Cert.KernelIdeal.main_v33)) (ix2 1 (up k))
    = FloatOps.sitofp (F := Ideal) .f32 ((B14 m' c (Proc.devRef .tc Cert.ReferenceIdeal.main_v99) : IVec ⟨1, ![1000]⟩ 32) (ix1 k)) :=
  (KHost.h33_1 _ (up k)).trans (cls h k)

/-- The kernel's column of classes holds the reference's class of each candidate. -/
theorem cls_col (k : Fin 1000) : fv ⟨2, ![1024, 2]⟩ (VA m c (Proc.devRef .tc Cert.KernelIdeal.main_v36)) (ix2 (up k) 1)
    = FloatOps.sitofp (F := Ideal) .f32 ((B14 m' c (Proc.devRef .tc Cert.ReferenceIdeal.main_v99) : IVec ⟨1, ![1000]⟩ 32) (ix1 k)) :=
  (KHost.h36 _ (up k)).trans (cls h k)

end Cert.Same
-- ==== Proof.Tail.lean ====
/-  What both programs do with their final scores: the hundred greatest, and the boxes and classes at their places. -/
module

public import proofs.«01_k».proof.Proof.Gen.KernelIdeal.Launch
public import proofs.«01_k».proof.Proof.Gen.ReferenceIdeal.Run
public import Idealize.ShloMosaic.PureOps.Ideal
public import Idealize.ShloMosaic.Lib.Pointwise
public import Idealize.ShloMosaic.Lib.Routing.Ops
public import Idealize.ShloMosaic.Lib.Routing.OpsSet

@[expose] public section

set_option maxRecDepth 16384

noncomputable section

namespace Cert.Tail

open Idealize.ShloMosaic Idealize.ShloMosaic.TcCoe Idealize.SL.Sem Idealize.ShloMosaic.StableHlo

/-- A small index word is not negative. -/
theorem not_slt (q : ℕ) (h : q < 2 ^ 31) : IntOp.cmpi .slt (BitVec.ofNat 32 q) 0#32 = 0#1 := by
  unfold IntOp.cmpi
  have h1 : (BitVec.ofNat 32 q).toInt = q := by
    rw [BitVec.toInt_eq_toNat_of_lt] <;> rw [BitVec.toNat_ofNat, Nat.mod_eq_of_lt (by omega)]
    omega
  have h2 : (BitVec.ofNat 32 q).slt 0#32 = false := by
    rw [BitVec.slt_eq_decide, h1]
    simp
  show BitVec.ofBool ((BitVec.ofNat 32 q).slt 0#32) = 0#1
  rw [h2]
  rfl

/-- A buffer of floats, as a function into the extended reals. -/
abbrev fv (s : Shape) (x : FVec Ideal s .f32) : s.Idx → EReal := x

/-- A vector as a column. -/
theorem bcol {α : Type} (w : Cert.KernelIdeal.S100.Idx → α) (r : Fin 100) :
    broadcastInDim Cert.KernelIdeal.S100x1 ![0] Cert.KernelIdeal.Gen.bcast_S100_S100x1_0 w (ix2 r 0) = w (ix1 r) := by
  pointwise

/-- A small index word is taken as it is. -/
theorem at_word (w : IVec Cert.KernelIdeal.S100 32) (n : BitVec 32) (r : Fin 100) (q : ℕ) (h : q < 2 ^ 31) (hq : w (ix1 r) = BitVec.ofNat 32 q) :
    broadcastInDim Cert.KernelIdeal.S100x1 ![0] Cert.KernelIdeal.Gen.bcast_S100_S100x1_0
      (select (cmpi .slt w (broadcastInDim Cert.KernelIdeal.S100 ![] Cert.KernelIdeal.Gen.bcast_S_S100 (constantI Cert.KernelIdeal.S_ 32 0#32)))
        (addi w (broadcastInDim Cert.KernelIdeal.S100 ![] Cert.KernelIdeal.Gen.bcast_S_S100 (constantI Cert.KernelIdeal.S_ 32 n))) w) (ix2 r 0)
      = BitVec.ofNat 32 q := by
  refine (bcol _ r).trans ?_
  show Scalar.select (IntOp.cmpi .slt (w (ix1 r)) 0#32) (IntOp.addi (w (ix1 r)) n) (w (ix1 r)) = _
  rw [hq, not_slt q h]
  rfl

section Kernel
open Cert.KernelIdeal Cert.KernelIdeal.Gen

variable (V : Valuation τ sig (Elt Ideal))

/-- The scores the kernel makes its last choice from. -/
abbrev kScores : S1024.Idx → EReal := shapeCast S1024 (V (Proc.devRef .tc main_v37_0) : FVec Ideal S1x1024 .f32) shapeCasts_S1x1024_S1024

/-- The kernel's score column holds the hundred best scores in order. -/
theorem k54 (r : Fin 100) : fv S100x1 (after hostOps2 V (Proc.devRef .tc main_v54)) (ix2 r 0)
    = (Host.topK S100 0 (FloatOps.cmpfTotal (F := Ideal) (φ := .f32) .gt) (kScores V) sliceFits_S1024_S100).1 (ix1 r) := by
  after_results
  rfl

/-- The kernel's box rows hold the boxes at the chosen places. -/
theorem k46 (r : Fin 100) (q : Fin 1024) (a : Fin 4)
    (hq : (Host.topK S100 0 (FloatOps.cmpfTotal (F := Ideal) (φ := .f32) .gt) (kScores V) sliceFits_S1024_S100).2 (ix1 r) = BitVec.ofNat 32 q.val) :
    fv S100x4 (after hostOps2 V (Proc.devRef .tc main_v46)) (ix2 r a) = fv S4x1024 (V (Proc.devRef .tc main_v37_1)) (ix2 a q) := by
  after_results
  refine (Routing.gather_row _ rfl rfl rfl rfl rfl _ _ r a q (at_word _ _ r _ (by have := q.isLt; omega) hq) (by decide)).trans ?_
  unfold fv
  pointwise

/-- The kernel's class column holds the classes at the chosen places. -/
theorem k55 (r : Fin 100) (q : Fin 1024)
    (hq : (Host.topK S100 0 (FloatOps.cmpfTotal (F := Ideal) (φ := .f32) .gt) (kScores V) sliceFits_S1024_S100).2 (ix1 r) = BitVec.ofNat 32 q.val) :
    fv S100x1 (after hostOps2 V (Proc.devRef .tc main_v55)) (ix2 r 0) = fv S1024 (V (Proc.devRef .tc main_v30)) (ix1 q) := by
  after_results
  refine (bcol _ r).trans ?_
  exact Routing.gather_take1 _ rfl rfl rfl rfl _ _ r q (at_word _ _ r _ (by have := q.isLt; omega) hq) (by decide)

end Kernel

section Reference
open Cert.ReferenceIdeal Cert.ReferenceIdeal.Gen

variable (V : Valuation τ sig (Elt Ideal))

/-- The scores the reference makes its last choice from. -/
abbrev rScores : S1000.Idx → EReal := fv S1000 (V (Proc.devRef .tc main_v165))

/-- The reference's score column holds the hundred best scores in order. -/
theorem r181 (r : Fin 100) : fv S100x1 (after hostOps0_19 V (Proc.devRef .tc main_v181)) (ix2 r 0)
    = (Host.topK S100 0 (FloatOps.cmpfTotal (F := Ideal) (φ := .f32) .gt) (rScores V) sliceFits_S1000_S100).1 (ix1 r) := by
  after_results
  exact bcol _ r

/-- The reference's box rows hold the boxes at the chosen places. -/
theorem r172 (r : Fin 100) (q : Fin 1000) (a : Fin 4)
    (hq : (Host.topK S100 0 (FloatOps.cmpfTotal (F := Ideal) (φ := .f32) .gt) (rScores V) sliceFits_S1000_S100).2 (ix1 r) = BitVec.ofNat 32 q.val) :
    fv S100x4 (after hostOps0_19 V (Proc.devRef .tc main_v172)) (ix2 r a) = fv S1000x4 (V (Proc.devRef .tc main_v113)) (ix2 q a) := by
  after_results
  exact Routing.gather_row _ rfl rfl rfl rfl rfl _ _ r a q (at_word _ _ r _ (by have := q.isLt; omega) hq) (by decide)

/-- The reference's class column holds the classes at the chosen places. -/
theorem r182 (r : Fin 100) (q : Fin 1000)
    (hq : (Host.topK S100 0 (FloatOps.cmpfTotal (F := Ideal) (φ := .f32) .gt) (rScores V) sliceFits_S1000_S100).2 (ix1 r) = BitVec.ofNat 32 q.val) :
    fv S100x1 (after hostOps0_19 V (Proc.devRef .tc main_v182)) (ix2 r 0)
      = FloatOps.sitofp (F := Ideal) .f32 ((V (Proc.devRef .tc main_v99) : IVec S1000 32) (ix1 q)) := by
  after_results
  refine (bcol _ r).trans ?_
  refine congrArg (FloatOps.sitofp (F := Ideal) .f32) ?_
  exact Routing.gather_take1 _ rfl rfl rfl rfl _ _ r q (at_word _ _ r _ (by have := q.isLt; omega) hq) (by decide)

end Reference

/-- The last of a line of operations, of three operands: its result from what the whole line leaves in them. -/
theorem last3 {τ : Topo} {sig : RefSig} (L : List (HloOp τ sig (Elt Ideal))) (x : Fin 3 → Ref sig .tc) (y : Ref sig .tc)
    (f : ((k : Fin 3) → (x k).ty.Contents (Elt Ideal)) → y.ty.Contents (Elt Ideal)) (hx hy) (hn : ∀ k, x k ≠ y) (V : Valuation τ sig (Elt Ideal)) :
    after (L ++ [nary x y f hx hy]) V (Proc.devRef .tc y) = f (fun k => after (L ++ [nary x y f hx hy]) V (Proc.devRef .tc (x k))) := by
  induction L generalizing V with
  | nil =>
    show (nary x y f hx hy).result V (Proc.devRef .tc y) = f (fun k => (nary x y f hx hy).result V (Proc.devRef .tc (x k)))
    rw [nary_result]
    refine congrArg f (funext fun k => ?_)
    rw [nary_result_ne]
    exact hn k
  | cons op L ih => exact ih (op.result V)

/-- The kernel's result is its boxes, scores and classes side by side. -/
theorem kConcat (V : Valuation Cert.KernelIdeal.τ Cert.KernelIdeal.sig (Elt Ideal)) :
    fv ⟨2, ![100, 6]⟩ (after Cert.KernelIdeal.Gen.hostOps2 V (Proc.devRef .tc Cert.KernelIdeal.main_v56))
      = concatenate ⟨2, ![100, 6]⟩ 1 [⟨⟨2, ![100, 4]⟩, fv ⟨2, ![100, 4]⟩ (after Cert.KernelIdeal.Gen.hostOps2 V (Proc.devRef .tc Cert.KernelIdeal.main_v46))⟩,
        ⟨⟨2, ![100, 1]⟩, fv ⟨2, ![100, 1]⟩ (after Cert.KernelIdeal.Gen.hostOps2 V (Proc.devRef .tc Cert.KernelIdeal.main_v54))⟩,
        ⟨⟨2, ![100, 1]⟩, fv ⟨2, ![100, 1]⟩ (after Cert.KernelIdeal.Gen.hostOps2 V (Proc.devRef .tc Cert.KernelIdeal.main_v55))⟩]
        Cert.KernelIdeal.Gen.concatenates_S100x4_S100x1_S100x1_S100x6_d1 :=
  last3 (Cert.KernelIdeal.Gen.hostOps2.dropLast) _ Cert.KernelIdeal.main_v56 _ _ _ (by decide) V

/-- The reference's result is its boxes, scores and classes side by side. -/
theorem rConcat (V : Valuation Cert.ReferenceIdeal.τ Cert.ReferenceIdeal.sig (Elt Ideal)) :
    fv ⟨2, ![100, 6]⟩ (after Cert.ReferenceIdeal.Gen.hostOps0_19 V (Proc.devRef .tc Cert.ReferenceIdeal.main_v183))
      = concatenate ⟨2, ![100, 6]⟩ 1 [⟨⟨2, ![100, 4]⟩, fv ⟨2, ![100, 4]⟩ (after Cert.ReferenceIdeal.Gen.hostOps0_19 V (Proc.devRef .tc Cert.ReferenceIdeal.main_v172))⟩,
        ⟨⟨2, ![100, 1]⟩, fv ⟨2, ![100, 1]⟩ (after Cert.ReferenceIdeal.Gen.hostOps0_19 V (Proc.devRef .tc Cert.ReferenceIdeal.main_v181))⟩,
        ⟨⟨2, ![100, 1]⟩, fv ⟨2, ![100, 1]⟩ (after Cert.ReferenceIdeal.Gen.hostOps0_19 V (Proc.devRef .tc Cert.ReferenceIdeal.main_v182))⟩]
        Cert.KernelIdeal.Gen.concatenates_S100x4_S100x1_S100x1_S100x6_d1 :=
  last3 (Cert.ReferenceIdeal.Gen.hostOps0_19.dropLast) _ Cert.ReferenceIdeal.main_v183 _ _ _ (by decide) V

/-- The three parts put side by side, in both programs. -/
theorem sides (V : Valuation Cert.KernelIdeal.τ Cert.KernelIdeal.sig (Elt Ideal)) (V' : Valuation Cert.ReferenceIdeal.τ Cert.ReferenceIdeal.sig (Elt Ideal))
    (h1 : fv ⟨2, ![100, 4]⟩ (after Cert.KernelIdeal.Gen.hostOps2 V (Proc.devRef .tc Cert.KernelIdeal.main_v46))
      = fv ⟨2, ![100, 4]⟩ (after Cert.ReferenceIdeal.Gen.hostOps0_19 V' (Proc.devRef .tc Cert.ReferenceIdeal.main_v172)))
    (h2 : fv ⟨2, ![100, 1]⟩ (after Cert.KernelIdeal.Gen.hostOps2 V (Proc.devRef .tc Cert.KernelIdeal.main_v54))
      = fv ⟨2, ![100, 1]⟩ (after Cert.ReferenceIdeal.Gen.hostOps0_19 V' (Proc.devRef .tc Cert.ReferenceIdeal.main_v181)))
    (h3 : fv ⟨2, ![100, 1]⟩ (after Cert.KernelIdeal.Gen.hostOps2 V (Proc.devRef .tc Cert.KernelIdeal.main_v55))
      = fv ⟨2, ![100, 1]⟩ (after Cert.ReferenceIdeal.Gen.hostOps0_19 V' (Proc.devRef .tc Cert.ReferenceIdeal.main_v182))) :
    fv ⟨2, ![100, 6]⟩ (after Cert.KernelIdeal.Gen.hostOps2 V (Proc.devRef .tc Cert.KernelIdeal.main_v56))
      = fv ⟨2, ![100, 6]⟩ (after Cert.ReferenceIdeal.Gen.hostOps0_19 V' (Proc.devRef .tc Cert.ReferenceIdeal.main_v183)) := by
  rw [kConcat, rConcat, h1, h2, h3]

end Cert.Tail
-- ==== Proof.TopPad.lean ====
/-  The greatest entries of an array padded with its least value are those of the array itself. -/
module

public import Idealize.ShloMosaic.Lib.SortFacts
public import Idealize.ShloMosaic.Lib.Pointwise
public import Idealize.ShloMosaic.PureOps.Ideal

@[expose] public section

noncomputable section

namespace Cert.TopPad

open Idealize.ShloMosaic

variable {ι κ : Type}

/-- Putting an element into a list followed by elements that do not come before it leaves those where they are. -/
theorem insert_append (B : ι → ι → Bool) (a : ι) (s p : List ι) (hp : ∀ b ∈ p, B b a = false) :
    insertBefore B a (s ++ p) = insertBefore B a s ++ p := by
  induction s with
  | nil =>
    cases p with
    | nil => rfl
    | cons b p => simp [insertBefore, hp b (by simp)]
  | cons c s ih =>
    simp only [List.cons_append, insertBefore]
    split
    · rw [ih]; rfl
    · rfl

/-- Sorting a list followed by elements none of which comes before any of the list's sorts the two parts apart. -/
theorem sort_append (B : ι → ι → Bool) (l p : List ι) (hp : ∀ b ∈ p, ∀ a ∈ l, B b a = false) :
    stableSort B (l ++ p) = stableSort B l ++ stableSort B p := by
  induction l with
  | nil => rfl
  | cons a l ih =>
    simp only [List.cons_append, stableSort]
    rw [ih fun b hb a' ha => hp b hb a' (List.mem_cons_of_mem _ ha)]
    exact insert_append B a _ _ fun b hb => hp b ((perm_stableSort B p).mem_iff.1 hb) a (List.mem_cons_self)

/-- Sorting the image of a list is the image of sorting it by the comparison of the images. -/
theorem sort_map (B : κ → κ → Bool) (f : ι → κ) (l : List ι) :
    stableSort B (l.map f) = (stableSort (fun i j => B (f i) (f j)) l).map f := by
  have ins : ∀ (a : ι) (s : List ι), insertBefore B (f a) (s.map f) = (insertBefore (fun i j => B (f i) (f j)) a s).map f := by
    intro a s
    induction s with
    | nil => rfl
    | cons c s ih =>
      simp only [List.map_cons, insertBefore]
      split
      · rw [ih]; rfl
      · rfl
  induction l with
  | nil => rfl
  | cons a l ih => simp only [List.map_cons, stableSort]; rw [ih, ins]

/-- The first `N` numbers are the first `n` and then the rest. -/
theorem finRange_split {n N : Nat} (h : n ≤ N) :
    List.finRange N = (List.finRange n).map (Fin.castLE h) ++ (List.finRange (N - n)).map (fun i => ⟨n + i.val, by omega⟩) := by
  refine List.ext_getElem (by simp; omega) fun i h1 h2 => ?_
  rw [List.getElem_append]
  split
  · simp
  · rename_i hi
    simp at hi
    simp; omega

/-- Among the first places, sorting a longer row whose further entries never come before the first ones picks the same
    positions as sorting the first entries alone. -/
theorem sortedFrom_pad {n N : Nat} (h : n ≤ N) (B : Fin N → Fin N → Bool)
    (hp : ∀ b a : Fin N, n ≤ b.val → a.val < n → B b a = false) (k : Fin n) :
    sortedFrom B (k.castLE h) = (sortedFrom (fun i j => B (i.castLE h) (j.castLE h)) k).castLE h := by
  have e : sortPositions N B = (sortPositions n (fun i j => B (i.castLE h) (j.castLE h))).map (Fin.castLE h)
      ++ stableSort B ((List.finRange (N - n)).map (fun i => ⟨n + i.val, by omega⟩)) := by
    unfold sortPositions
    rw [finRange_split h, sort_append, sort_map]
    intro b hb a ha
    simp only [List.mem_map] at hb ha
    obtain ⟨b', -, rfl⟩ := hb
    obtain ⟨a', -, rfl⟩ := ha
    exact hp _ _ (by simp) (by simp)
  unfold sortedFrom
  have hl := length_sortPositions n (fun i j => B (i.castLE h) (j.castLE h))
  simp only [List.get_eq_getElem, Fin.val_cast, Fin.val_castLE]
  have : ∀ (L : List (Fin N)) (hL : k.val < L.length) (_ : L = sortPositions N B), L[k.val] = (sortPositions N B)[k.val]'(by rw [length_sortPositions]; omega) := by
    intro L hL e'; subst e'; rfl
  rw [← this _ (by simp [hl]; omega) e.symm, List.getElem_append_left (by simp [hl]), List.getElem_map]

/-- An entry of the largest `K` of a row, and its position: those of the sorting permutation. -/
theorem topK_apply {α : Type} {N K : Nat} (gt : α → α → BitVec 1) (y : (⟨1, ![N]⟩ : Shape).Idx → α)
    (h : (⟨1, ![N]⟩ : Shape).Slices (fun _ => 0) ⟨1, ![K]⟩) (r : Fin K) (hr : r.val < N) :
    (Host.topK (s := ⟨1, ![N]⟩) ⟨1, ![K]⟩ 0 gt y h).1 (ix1 r)
        = y (ix1 (sortedFrom (fun i j => gt (y (ix1 i)) (y (ix1 j)) == 1#1) ⟨r.val, hr⟩))
      ∧ (Host.topK (s := ⟨1, ![N]⟩) ⟨1, ![K]⟩ 0 gt y h).2 (ix1 r)
        = BitVec.ofNat 32 (sortedFrom (fun i j => gt (y (ix1 i)) (y (ix1 j)) == 1#1) ⟨r.val, hr⟩).val := by
  have al : ∀ (j : (⟨1, ![N]⟩ : Shape).Idx) (k : Fin N), j.along (0 : Fin 1) k = ix1 k := by
    intro j k
    refine (eq_ix1 _).trans (congrArg ix1 ?_)
    exact Function.update_self ..
  have hb : ∀ (j : (⟨1, ![N]⟩ : Shape).Idx), (fun k k' : Fin N => gt (y (j.along (0 : Fin 1) k)) (y (j.along (0 : Fin 1) k')) == 1#1)
      = fun i i' => gt (y (ix1 i)) (y (ix1 i')) == 1#1 := by
    intro j; funext k k'; rw [al, al]
  have hp : ∀ q : Fin N, q.val = r.val → sortedFrom (fun i j => gt (y (ix1 i)) (y (ix1 j)) == 1#1) q
      = sortedFrom (fun i j => gt (y (ix1 i)) (y (ix1 j)) == 1#1) ⟨r.val, hr⟩ := fun q hq => congrArg _ (Fin.ext hq)
  let J : (⟨1, ![N]⟩ : Shape).Idx := fun a => ⟨0 + (ix1 r (a.cast h.1.symm)).val, Nat.lt_of_lt_of_le (Nat.add_lt_add_left (ix1 r _).isLt _) (h.2 a)⟩
  unfold Host.topK Host.sort2
  constructor
  · exact (congrArg y (al J _)).trans (congrArg (fun q => y (ix1 q)) ((congrArg (fun B => sortedFrom (n := N) B (J 0)) (hb J)).trans (hp _ (Nat.zero_add _))))
  · exact (congrArg (fun q : (⟨1, ![N]⟩ : Shape).Idx => BitVec.ofNat 32 (q 0).val) (al J _)).trans
      (congrArg (fun q : Fin N => BitVec.ofNat 32 q.val) ((congrArg (fun B => sortedFrom (n := N) B (J 0)) (hb J)).trans (hp _ (Nat.zero_add _))))

/-- The largest entries of a row whose entries from place `n` on all equal a value no larger than any other entry are
    those of its first `n` entries: the same positions, in the same order. -/
theorem topK_pad {n N K : Nat} (hn : n ≤ N) (hK : K ≤ n) (y : (⟨1, ![N]⟩ : Shape).Idx → EReal) (z : (⟨1, ![n]⟩ : Shape).Idx → EReal) (M : EReal)
    (hyz : ∀ j : Fin n, y (ix1 (j.castLE hn)) = z (ix1 j))
    (hy : ∀ j : Fin N, n ≤ j.val → y (ix1 j) = M) (hz : ∀ j : Fin n, M ≤ z (ix1 j))
    (h : (⟨1, ![N]⟩ : Shape).Slices (fun _ => 0) ⟨1, ![K]⟩) (h' : (⟨1, ![n]⟩ : Shape).Slices (fun _ => 0) ⟨1, ![K]⟩) (r : Fin K) :
    ∃ q : Fin n,
      (Host.topK (s := ⟨1, ![N]⟩) ⟨1, ![K]⟩ 0 (FloatOps.cmpfTotal (F := Ideal) (φ := .f32) .gt) y h).1 (ix1 r) = z (ix1 q)
      ∧ (Host.topK (s := ⟨1, ![N]⟩) ⟨1, ![K]⟩ 0 (FloatOps.cmpfTotal (F := Ideal) (φ := .f32) .gt) y h).2 (ix1 r) = BitVec.ofNat 32 q.val
      ∧ (Host.topK (s := ⟨1, ![n]⟩) ⟨1, ![K]⟩ 0 (FloatOps.cmpfTotal (F := Ideal) (φ := .f32) .gt) z h').1 (ix1 r) = z (ix1 q)
      ∧ (Host.topK (s := ⟨1, ![n]⟩) ⟨1, ![K]⟩ 0 (FloatOps.cmpfTotal (F := Ideal) (φ := .f32) .gt) z h').2 (ix1 r) = BitVec.ofNat 32 q.val := by
  have hr : r.val < n := Nat.lt_of_lt_of_le r.isLt hK
  have hr' : r.val < N := Nat.lt_of_lt_of_le hr hn
  obtain ⟨y1, y2⟩ := topK_apply (FloatOps.cmpfTotal (F := Ideal) (φ := .f32) .gt) y h r hr'
  obtain ⟨z1, z2⟩ := topK_apply (FloatOps.cmpfTotal (F := Ideal) (φ := .f32) .gt) z h' r hr
  have e := sortedFrom_pad hn (fun i j => (FloatOps.cmpfTotal (F := Ideal) (φ := .f32) .gt (y (ix1 i)) (y (ix1 j))) == 1#1) (by
    intro b a hb ha
    have h2 : y (ix1 a) = z (ix1 ⟨a.val, ha⟩) := hyz ⟨a.val, ha⟩
    have h3 := hz ⟨a.val, ha⟩
    rw [← h2, ← hy b hb] at h3
    show (BitVec.ofBool (decide (y (ix1 a) < y (ix1 b))) == 1#1) = false
    rw [decide_eq_false (not_lt.2 h3)]
    rfl) ⟨r.val, hr⟩
  simp only [hyz] at e
  refine ⟨_, y1.trans ?_, y2.trans ?_, z1, z2⟩
  · exact (congrArg (fun t : Fin N => y (ix1 t)) e).trans (hyz _)
  · exact congrArg (fun t : Fin N => BitVec.ofNat 32 t.val) e

end Cert.TopPad
-- ==== Proof.Whole.lean ====
/-  Both programs keep the same candidates and so return the same hundred detections. -/
module

public import proofs.«01_k».proof.Proof.Same
public import proofs.«01_k».proof.Proof.Tail
public import proofs.«01_k».proof.Proof.TopPad

@[expose] public section

set_option maxRecDepth 16384
set_option maxHeartbeats 2000000

noncomputable section

namespace Cert.Whole

open Idealize.ShloMosaic Idealize.ShloMosaic.TcCoe Idealize.SL.Sem Idealize.ShloMosaic.StableHlo
open Cert.KHost (fv up row cla)
open Cert.KernelIdeal.Gen Cert.RFrame Cert.KFrame Cert.Same Cert.K1

variable (m : (ℓ : Loc Cert.KernelIdeal.nD Cert.KernelIdeal.τ Cert.KernelIdeal.sig) → Buf (Elt Ideal) ℓ)
  (m' : (ℓ : Loc Cert.ReferenceIdeal.nD Cert.ReferenceIdeal.τ Cert.ReferenceIdeal.sig) → Buf (Elt Ideal) ℓ) (c : Dev 1)

/-- Candidate `i` overlaps the later candidate `j` by more than one half, as the suppression call computes it. -/
abbrev S (i j : Fin 1024) : Prop :=
  supB (F := Ideal) (VA m c (Proc.devRef .tc Cert.KernelIdeal.main_v34)) (VA m c (Proc.devRef .tc Cert.KernelIdeal.main_v27))
    (VA m c (Proc.devRef .tc Cert.KernelIdeal.main_v35)) (VA m c (Proc.devRef .tc Cert.KernelIdeal.main_v28))
    (VA m c (Proc.devRef .tc Cert.KernelIdeal.main_v33)) (VA m c (Proc.devRef .tc Cert.KernelIdeal.main_v36)) (ix2 i j) = 1#1

/-- Candidate `j`'s score counts. -/
abbrev W (j : Fin 1024) : Prop := (0 : EReal) < Box.thr (fv ⟨2, ![2, 1024]⟩ (VA m c (Proc.devRef .tc Cert.KernelIdeal.main_v33)) (ix2 0 j))

/-- The suppression call keeps candidate `j`. -/
abbrev P (j : Fin 1024) : Prop := (0 : EReal) < ((kk m c) (ix2 0 j) : EReal)

/-- The suppression call keeps a candidate exactly if its score counts and no candidate kept suppresses it. -/
theorem kept (j : Fin 1024) : P m c j ↔ W m c j ∧ ∀ i, S m c i j → ¬ P m c i := by
  classical
  have hf := fixed m c ⟨0, by decide⟩
  rw [KOut.in0, KOut.in1, KOut.in2, KOut.in3, KOut.in4, KOut.in5] at hf
  refine Nms.fixed_iff _ _ (S m c) (W m c) (fun i j => ?_) (fun j => ?_) (kk m c) hf j
  · rw [Nms.pay1_apply]
  · rw [Nms.pay3_apply, Box.thr_apply]

variable {m m' c}
variable (h : Agree m m' c)
include h

/-- Both programs find the same overlaps. -/
theorem overlaps (i j : Fin 1000) : S m c (up i) (up j) ↔ RKeep.Ov m' c i j ∧ i.val < j.val := by
  refine (Box.sup_apply _ _ _ _ _ _ (up i) (up j)).trans ?_
  refine and_comm.trans (and_congr ?_ Iff.rfl)
  unfold RKeep.Ov
  rw [RHost.over m' c i j]
  have e1 := funext (box' h i)
  have e2 := funext (box h j)
  have e3 := cls_col h i
  have e4 := cls_row h j
  unfold fv at e1 e2 e3 e4
  rw [e1, e2, e3, e4]

/-- Both programs keep the same candidates. -/
theorem keeps (j : Fin 1000) : RKeep.Q m' c 1000 j ↔ P m c (up j) := by
  refine Nms.greedy (S m c) (W m c) (P m c) (fun i j hs => ((Box.sup_apply _ _ _ _ _ _ i j).1 hs).1) (kept m c) (RKeep.Q m' c) (fun j => ?_) (fun t ht j => ?_) j
  · refine (RHost.start m' c j).trans ?_
    show _ ↔ W m c (up j)
    unfold W
    rw [score h j]
  · refine (RKeep.trip m' c t ht j).trans (and_congr Iff.rfl (not_congr (and_congr ?_ Iff.rfl)))
    exact (overlaps h ⟨t, ht⟩ j).symm

omit h in
/-- Rejected candidates score least. -/
theorem least (v : EReal) : Ideal.ofBits .f32 0xC61C4000#32 ≤ Box.thr v := by
  unfold Box.thr
  split
  · rename_i hv
    refine le_trans ?_ hv.le
    have h1 : Ideal.ofBits .f32 0xC61C4000#32 ≤ 0 := by
      simp [Ideal.ofBits, Ideal.ieee]
      rw [← EReal.coe_mul]
      exact EReal.coe_nonneg.2 (by norm_num)
    have h2 : 0 ≤ Ideal.ofBits .f32 0x3D4CCCCD#32 := by
      simp [Ideal.ofBits, Ideal.ieee]
      rw [← EReal.coe_mul]
      exact EReal.coe_nonneg.2 (by norm_num)
    exact h1.trans h2
  · exact le_refl _

omit h in
/-- A choice by the word 1 is the first. -/
theorem sel1 (b : BitVec 1) (hb : b = 1#1) (x y : EReal) : Scalar.select b x y = x := by subst hb; rfl

omit h in
/-- A choice by the word 0 is the second. -/
theorem sel0 (b : BitVec 1) (hb : b = 0#1) (x y : EReal) : Scalar.select b x y = y := by subst hb; rfl

omit h in
/-- The suppression call's scores, as the last stretch finds them. -/
theorem v37_0 : V15 m (outs m) c (Proc.devRef .tc Cert.KernelIdeal.main_v37_0)
    = outF (F := Ideal) (VA m c (Proc.devRef .tc Cert.KernelIdeal.main_v33)) (kk m c) := by
  refine Eq.trans ?_ (KOut.fs_eq c (VA m) (kk m))
  unfold V15
  rw [Function.update_of_ne (by decide), Function.update_self]
  unfold outs
  rw [Function.update_of_ne (by decide), Function.update_self]

omit h in
/-- The suppression call's boxes, as the last stretch finds them. -/
theorem v37_1 : V15 m (outs m) c (Proc.devRef .tc Cert.KernelIdeal.main_v37_1)
    = outB (F := Ideal) (VA m c (Proc.devRef .tc Cert.KernelIdeal.main_v34)) (VA m c (Proc.devRef .tc Cert.KernelIdeal.main_v35)) := by
  refine Eq.trans ?_ (KOut.boxes_eq c (VA m) (kk m))
  unfold V15
  rw [Function.update_self]
  unfold outs
  rw [Function.update_self]

omit h in
/-- The classes are unchanged by the suppression call. -/
theorem v30 : V15 m (outs m) c (Proc.devRef .tc Cert.KernelIdeal.main_v30) = V13 m (outsA m) c (Proc.devRef .tc Cert.KernelIdeal.main_v30) := by
  rw [V15_of m (outs m) c Cert.KernelIdeal.main_v30 (by decide), V14_eq]
  exact V14_of m (outsA m) c Cert.KernelIdeal.main_v30 (by decide)

omit h in
/-- The kernel's final scores. -/
theorem kscore (j : Fin 1024) : Tail.kScores (V15 m (outs m) c) (ix1 j)
    = if P m c j then Box.thr (fv ⟨2, ![2, 1024]⟩ (VA m c (Proc.devRef .tc Cert.KernelIdeal.main_v33)) (ix2 0 j)) else Ideal.ofBits .f32 0xC61C4000#32 := by
  have hc : ∀ y : Cert.KernelIdeal.S1x1024.Idx → EReal, shapeCast Cert.KernelIdeal.S1024 y shapeCasts_S1x1024_S1024 (ix1 j) = y (ix2 0 j) := fun y => by pointwise
  refine (hc _).trans ?_
  refine (congrFun v37_0 (ix2 0 j)).trans ?_
  exact Box.outF_apply _ _ j

/-- Both programs give a candidate the same final score. -/
theorem scores (k : Fin 1000) : Tail.kScores (V15 m (outs m) c) (ix1 (up k)) = Tail.rScores (B20 m' c) (ix1 k) := by
  rw [kscore]
  refine Eq.trans ?_ (RHost.fin_score m' c k).symm
  rw [score h k]
  by_cases hp : P m c (up k)
  · have hq : (X m' c (Proc.devRef .tc Cert.ReferenceIdeal.main_v164_4) : IVec ⟨1, ![1000]⟩ 1) (ix1 k) = 1#1 := (keeps h k).2 hp
    rw [if_pos hp]
    exact (sel1 _ hq _ _).symm
  · have hq : (X m' c (Proc.devRef .tc Cert.ReferenceIdeal.main_v164_4) : IVec ⟨1, ![1000]⟩ 1) (ix1 k) = 0#1 :=
      (by decide : ∀ b : BitVec 1, b ≠ 1#1 → b = 0#1) _ (fun e => hp ((keeps h k).1 e))
    rw [if_neg hp]
    exact (sel0 _ hq _ _).symm

/-- The hundred greatest final scores are at the same places in both programs. -/
theorem tops (r : Fin 100) : ∃ q : Fin 1000,
    (Host.topK Cert.KernelIdeal.S100 0 (FloatOps.cmpfTotal (F := Ideal) (φ := .f32) .gt) (Tail.kScores (V15 m (outs m) c)) sliceFits_S1024_S100).1 (ix1 r)
      = (Host.topK Cert.ReferenceIdeal.S100 0 (FloatOps.cmpfTotal (F := Ideal) (φ := .f32) .gt) (Tail.rScores (B20 m' c)) Cert.ReferenceIdeal.Gen.sliceFits_S1000_S100).1 (ix1 r)
    ∧ (Host.topK Cert.KernelIdeal.S100 0 (FloatOps.cmpfTotal (F := Ideal) (φ := .f32) .gt) (Tail.kScores (V15 m (outs m) c)) sliceFits_S1024_S100).2 (ix1 r) = BitVec.ofNat 32 q.val
    ∧ (Host.topK Cert.ReferenceIdeal.S100 0 (FloatOps.cmpfTotal (F := Ideal) (φ := .f32) .gt) (Tail.rScores (B20 m' c)) Cert.ReferenceIdeal.Gen.sliceFits_S1000_S100).2 (ix1 r) = BitVec.ofNat 32 q.val := by
  have hy : ∀ j : Fin 1024, 1000 ≤ j.val → Tail.kScores (V15 m (outs m) c) (ix1 j) = Ideal.ofBits .f32 0xC61C4000#32 := fun j hj => by
    rw [kscore, score' j hj]
    unfold Box.thr
    split
    · split <;> rfl
    · rfl
  have hz : ∀ k : Fin 1000, Ideal.ofBits .f32 0xC61C4000#32 ≤ Tail.rScores (B20 m' c) (ix1 k) := fun k => by
    have e : Tail.rScores (B20 m' c) (ix1 k) = _ := RHost.fin_score m' c k
    rw [e]
    unfold Scalar.select
    split
    · exact least _
    · exact le_refl _
  obtain ⟨q, h1, h2, h3, h4⟩ := TopPad.topK_pad (n := 1000) (N := 1024) (K := 100) (by decide) (by decide) (Tail.kScores (V15 m (outs m) c)) (Tail.rScores (B20 m' c))
    (Ideal.ofBits .f32 0xC61C4000#32) (scores h) hy hz sliceFits_S1024_S100 Cert.ReferenceIdeal.Gen.sliceFits_S1000_S100 r
  exact ⟨q, h1.trans h3.symm, h2, h4⟩

/-- Both programs return the same detections. -/
theorem same : V16 m (outs m) c (Proc.devRef .tc Cert.KernelIdeal.main_v56) = B21 m' c (Proc.devRef .tc Cert.ReferenceIdeal.main_v183) := by
  refine Tail.sides (V15 m (outs m) c) (B20 m' c) (funext fun i => ?_) (funext fun i => ?_) (funext fun i => ?_)
  · rw [eq_ix2 i]
    obtain ⟨q, -, hk, hr⟩ := tops h (i 0)
    refine (Tail.k46 _ (i 0) (up q) (i 1) hk).trans (Eq.trans ?_ (Tail.r172 _ (i 0) q (i 1) hr).symm)
    refine (congrFun v37_1 (ix2 (i 1) (up q))).trans ((Box.outB_apply _ _ (i 1) (up q)).trans ((box h q (i 1)).trans ?_))
    rw [B20_of m' c Cert.ReferenceIdeal.main_v113 (by decide), B19_of m' c Cert.ReferenceIdeal.main_v113 (by decide), B18_of m' c Cert.ReferenceIdeal.main_v113 (by decide),
      X_of m' c Cert.ReferenceIdeal.main_v113 (by decide) (by decide), B17_of m' c Cert.ReferenceIdeal.main_v113 (by decide), B16_of m' c Cert.ReferenceIdeal.main_v113 (by decide)]
  · have hi : i = ix2 (i 0) 0 := by
      refine (eq_ix2 i).trans ?_
      congr 1
      exact Fin.ext (by have := (i 1).isLt; change (i 1).val < 1 at this; change (i 1).val = 0; omega)
    rw [hi]
    obtain ⟨q, hv, -, -⟩ := tops h (i 0)
    exact (Tail.k54 _ (i 0)).trans (hv.trans (Tail.r181 _ (i 0)).symm)
  · have hi : i = ix2 (i 0) 0 := by
      refine (eq_ix2 i).trans ?_
      congr 1
      exact Fin.ext (by have := (i 1).isLt; change (i 1).val < 1 at this; change (i 1).val = 0; omega)
    rw [hi]
    obtain ⟨q, -, hk, hr⟩ := tops h (i 0)
    refine (Tail.k55 _ (i 0) (up q) hk).trans (Eq.trans ?_ (Tail.r182 _ (i 0) q hr).symm)
    refine (congrFun v30 (ix1 (up q))).trans ((cls h q).trans ?_)
    rw [B20_of m' c Cert.ReferenceIdeal.main_v99 (by decide), B19_of m' c Cert.ReferenceIdeal.main_v99 (by decide), B18_of m' c Cert.ReferenceIdeal.main_v99 (by decide),
      X_of m' c Cert.ReferenceIdeal.main_v99 (by decide) (by decide), B17_of m' c Cert.ReferenceIdeal.main_v99 (by decide), B16_of m' c Cert.ReferenceIdeal.main_v99 (by decide),
      B15_of m' c Cert.ReferenceIdeal.main_v99 (by decide)]

end Cert.Whole
-- ==== Proof.lean ====
/-  The claims about the whole kernel at the extended reals and about its softmax call by itself, put together from the
    modules that prove them. -/
module

public import proofs.«01_k».proof.Defs
public import proofs.«01_k».proof.Proof.ScoresClaims
public import proofs.«01_k».proof.Proof.KFrame
public import proofs.«01_k».proof.Proof.RFrame
public import proofs.«01_k».proof.Proof.Whole
public import proofs.«01_k».proof.Proof.Gen.KernelIdeal
public import proofs.«01_k».proof.Proof.Gen.ReferenceIdeal
public import proofs.«01_k».proof.Proof.Gen.Scores
public import proofs.«01_k».proof.Proof.Gen.ScoresIdeal
public import proofs.«01_k».proof.Proof.Gen.ScoresReferenceIdeal

@[expose] public section

noncomputable section

namespace Cert.Proof

open Idealize.ShloMosaic Idealize.SL.Sem

/-- The whole kernel terminates at the extended reals from every memory, with its arguments as they were and every
    counter at zero. -/
theorem kernel_frame : Cert.quiescent_KernelIdeal := fun m ρ _ =>
  (θ_run Cert.KernelIdeal.defs _ _).mono (fun _ h => ⟨fun c => (h.1 c).2, h.2⟩) (Cert.KFrame.run m ρ)

/-- The whole reference terminates at the extended reals from every memory, with its arguments as they were and every
    counter at zero. -/
theorem reference_frame : Cert.quiescent_ReferenceIdeal := fun m ρ _ =>
  (θ_run Cert.ReferenceIdeal.defs _ _).mono (fun _ h => ⟨fun c => (h.1 c).2, h.2⟩) (Cert.RFrame.run (F := Ideal) m ρ)

/-- From the same arguments, whatever they are, the whole kernel and the whole reference return the same array at the
    extended reals. -/
theorem kernel_value : Cert.algebraic_KernelIdeal_ReferenceIdeal := by
  intro m ρ m' ρ' _ hagree
  refine ⟨fun c => Cert.KernelIdeal.Gen.V16 m (Cert.KFrame.outs m) c (Proc.devRef .tc Cert.KernelIdeal.main_v56), ?_, ?_⟩
  · exact (θ_run Cert.KernelIdeal.defs _ _).mono (fun _ h c => h.1 c) (Cert.KFrame.run m ρ)
  · refine (θ_run Cert.ReferenceIdeal.defs _ _).mono (fun _ h c => ⟨(h.1 c).1.trans ?_, (h.1 c).2⟩)
      (Cert.RFrame.run (F := Ideal) m' ρ')
    exact (Cert.Whole.same ⟨(hagree c).1, (hagree c).2.1, (hagree c).2.2.1⟩).symm

/-- All the claims of this certificate. -/
theorem claim : Cert.Claim :=
  ⟨Cert.KernelIdeal.Gen.facts, Cert.ReferenceIdeal.Gen.facts, Cert.Scores.Gen.facts, Cert.ScoresIdeal.Gen.facts,
    Cert.ScoresReferenceIdeal.Gen.facts,
    kernel_frame, reference_frame, ScoresClaims.frame_p, ScoresClaims.frame_pi, ScoresClaims.frame_ri,
    kernel_value, ScoresClaims.preserves, ScoresClaims.algebraic⟩

end Cert.Proof

end
